-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x2048x4096 : Shape := ⟨3, ![4, 2048, 4096]⟩
abbrev S65536x32 : Shape := ⟨2, ![65536, 32]⟩
abbrev S65536x1 : Shape := ⟨2, ![65536, 1]⟩
abbrev S131072x1 : Shape := ⟨2, ![131072, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S131072x1 : S_.BroadcastsInDim S131072x1 (![] : Fin 0 → Fin S131072x1.rank)
  reducesTo_S131072x1_S_d0_1 : S131072x1.ReducesTo [0, 1] S_
  bcast_S_S65536x32 : S_.BroadcastsInDim S65536x32 (![] : Fin 0 → Fin S65536x32.rank)
  reducesTo_S65536x32_S_d0_1 : S65536x32.ReducesTo [0, 1] S_

variable [Facts]

def fn_part1 {F : FTy → Type} [FloatOps F] (main_arg1 : IVec S65536x32 32) (main_v13 : IVec S_ 1) (main_v15 : IVec S65536x32 1) (main_c_5 : IVec S_ 1) : IVec S_ 1 :=
  let main_v16 : IVec S_ 1 := (fun x v => Host.reduce IntOp.andi x v reducesTo_S65536x32_S_d0_1 h_S_) main_v15 main_c_5
  let main_v17 : IVec S_ 1 := andi main_v13 main_v16
  let main_c_6 : IVec S_ 32 := constantI S_ 32 65536#32
  let main_v18 : IVec S65536x32 32 := broadcastInDim S65536x32 ![] bcast_S_S65536x32 main_c_6
  let main_v19 : IVec S65536x32 1 := cmpi .slt main_arg1 main_v18
  let main_c_7 : IVec S_ 1 := constantI S_ 1 1#1
  let main_v20 : IVec S_ 1 := (fun x v => Host.reduce IntOp.andi x v reducesTo_S65536x32_S_d0_1 h_S_) main_v19 main_c_7
  let main_v21 : IVec S_ 1 := andi main_v17 main_v20
  main_v21

def fn {F : FTy → Type} [FloatOps F] (main_arg0 : FVec F S4x2048x4096 .f32) (main_arg1 : IVec S65536x32 32) (main_arg2 : FVec F S65536x1 .f32) (main_arg3 : FVec F S131072x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536x1 .f32 := Host.absf main_arg2
  let main_cst_0 : FVec F S_ .f32 := constant S_ .f32 0x7F800000#32
  let main_v5 : FVec F S65536x1 .f32 := broadcastInDim S65536x1 ![] bcast_S_S65536x1 main_cst_0
  let main_v6 : IVec S65536x1 1 := cmpf .olt main_v4 main_v5
  let main_c_1 : IVec S_ 1 := constantI S_ 1 1#1
  let main_v7 : IVec S_ 1 := (fun x v => Host.reduce IntOp.andi x v reducesTo_S65536x1_S_d0_1 h_S_) main_v6 main_c_1
  let main_v8 : IVec S_ 1 := andi main_v3 main_v7
  let main_v9 : FVec F S131072x1 .f32 := Host.absf main_arg3
  let main_cst_2 : FVec F S_ .f32 := constant S_ .f32 0x7F800000#32
  let main_v10 : FVec F S131072x1 .f32 := broadcastInDim S131072x1 ![] bcast_S_S131072x1 main_cst_2
  let main_v11 : IVec S131072x1 1 := cmpf .olt main_v9 main_v10
  let main_c_3 : IVec S_ 1 := constantI S_ 1 1#1
  let main_v12 : IVec S_ 1 := (fun x v => Host.reduce IntOp.andi x v reducesTo_S131072x1_S_d0_1 h_S_) main_v11 main_c_3
  let main_v13 : IVec S_ 1 := andi main_v8 main_v12
  let main_c_4 : IVec S_ 32 := constantI S_ 32 0#32
  let main_v14 : IVec S65536x32 32 := broadcastInDim S65536x32 ![] bcast_S_S65536x32 main_c_4
  let main_v15 : IVec S65536x32 1 := cmpi .sge main_arg1 main_v14
  let main_c_5 : IVec S_ 1 := constantI S_ 1 1#1
  fn_part1 (F := F) main_arg1 main_v13 main_v15 main_c_5
-- ==== Kernel.lean ====
abbrev S4x2048x4096 : Shape := ⟨3, ![4, 2048, 4096]⟩
abbrev S65536x32 : Shape := ⟨2, ![65536, 32]⟩
abbrev S65536x1 : Shape := ⟨2, ![65536, 1]⟩
abbrev S131072x1 : Shape := ⟨2, ![131072, 1]⟩
abbrev S128x128 : Shape := ⟨2, ![128, 128]⟩
abbrev S256x256x16x2 : Shape := ⟨4, ![256, 256, 16, 2]⟩
abbrev S256x2x256x16 : Shape := ⟨4, ![256, 2, 256, 16]⟩
abbrev S512x4096 : Shape := ⟨2, ![512, 4096]⟩
abbrev S65536x31 : Shape := ⟨2, ![65536, 31]⟩
abbrev S65536 : Shape := ⟨1, ![65536]⟩
abbrev S32768 : Shape := ⟨1, ![32768]⟩
abbrev S256x1x128 : Shape := ⟨3, ![256, 1, 128]⟩
abbrev S256x8x128 : Shape := ⟨3, ![256, 8, 128]⟩
abbrev S4096x32 : Shape := ⟨2, ![4096, 32]⟩
abbrev S32x4096 : Shape := ⟨2, ![32, 4096]⟩
abbrev S4096x4096 : Shape := ⟨2, ![4096, 4096]⟩
abbrev S512x256 : Shape := ⟨2, ![512, 256]⟩
abbrev S32x256 : Shape := ⟨2, ![32, 256]⟩
abbrev S4096x256 : Shape := ⟨2, ![4096, 256]⟩
abbrev S8x256 : Shape := ⟨2, ![8, 256]⟩
abbrev S1x256 : Shape := ⟨2, ![1, 256]⟩
abbrev S8x128 : Shape := ⟨2, ![8, 128]⟩
abbrev S1x8x128 : Shape := ⟨3, ![1, 8, 128]⟩
abbrev S8x128x1 : Shape := ⟨3, ![8, 128, 1]⟩
abbrev S128x256 : Shape := ⟨2, ![128, 256]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 30
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S65536x32, .i32⟩
  | .hbm, ⟨2, _⟩ => ⟨S65536x1, .f32⟩
  | .hbm, ⟨3, _⟩ => ⟨S131072x1, .f32⟩
  | .hbm, ⟨4, _⟩ => ⟨S128x128, .f32⟩
  | .hbm, ⟨5, _⟩ => ⟨S256x256x16x2, .i32⟩
  | .hbm, ⟨6, _⟩ => ⟨S256x2x256x16, .i32⟩
  | .hbm, ⟨7, _⟩ => ⟨S512x4096, .i32⟩
  | .hbm, ⟨8, _⟩ => ⟨S65536x31, .i32⟩
  | .hbm, ⟨9, _⟩ => ⟨S65536x1, .i32⟩
  | .hbm, ⟨10, _⟩ => ⟨S65536x32, .i32⟩
  | .hbm, ⟨11, _⟩ => ⟨S256x256x16x2, .i32⟩
  | .hbm, ⟨12, _⟩ => ⟨S256x2x256x16, .i32⟩
  | .hbm, ⟨13, _⟩ => ⟨S512x4096, .i32⟩
  | .hbm, ⟨14, _⟩ => ⟨S65536, .f32⟩
  | .hbm, ⟨15, _⟩ => ⟨S65536, .bf16⟩
  | .hbm, ⟨16, _⟩ => ⟨S65536, .f32⟩
  | .hbm, ⟨17, _⟩ => ⟨S32768, .f32⟩
  | .hbm, ⟨18, _⟩ => ⟨S256x1x128, .f32⟩
  | .hbm, ⟨19, _⟩ => ⟨S256x8x128, .f32⟩
  | .hbm, ⟨20, _⟩ => ⟨S32768, .f32⟩
  | .hbm, ⟨21, _⟩ => ⟨S256x1x128, .f32⟩
  | .hbm, ⟨22, _⟩ => ⟨S256x8x128, .f32⟩
  | .hbm, ⟨23, _⟩ => ⟨S4096x32, .f32⟩
  | .hbm, ⟨24, _⟩ => ⟨S32x4096, .f32⟩
  | .hbm, ⟨25, _⟩ => ⟨S4096x4096, .bf16⟩
  | .hbm, ⟨26, _⟩ => ⟨S8192x4096, .f32⟩
  | .hbm, ⟨27, _⟩ => ⟨S8192x4096, .bf16⟩
  | .hbm, ⟨28, _⟩ => ⟨S8192x4096, .f32⟩
  | .hbm, ⟨29, _⟩ => ⟨S4x2048x4096, .f32⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S256x8x128, .f32⟩
  | .local _ .vmem, ⟨5, _⟩ => ⟨S256x8x128, .f32⟩
  | .local _ .vmem, ⟨6, _⟩ => ⟨S32x256, .f32⟩
  | .local _ .vmem, ⟨7, _⟩ => ⟨S32x256, .f32⟩
  | .local _ .vmem, ⟨8, _⟩ => ⟨S128x128, .f32⟩
  | .local _ .vmem, ⟨9, _⟩ => ⟨S4096x256, .bf16⟩
  | .local _ .vmem, ⟨10, _⟩ => ⟨S4096x256, .bf16⟩
  | .local _ .vmem, ⟨11, _⟩ => ⟨S4096x256, .f32⟩
  | .local _ .vmem, ⟨12, _⟩ => ⟨S1024x4096, .bf16⟩
  | .local _ .vmem, ⟨13, _⟩ => ⟨S1024x4096, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .f32⟩
  | .local _ .vmem, ⟨17, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c512_i32 : BitVec 32 := 512#32
  let v7 : BitVec 32 := Scalar.addi c0_i32 c512_i32
  let c1_i32 : BitVec 32 := 1#32
  ⟨c0_i32, v7, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let v265 : Index := Scalar.indexCast arg10
  let c0_163 : Index := 0#32
  ![v265.toNat, 0]
def k0_off2 (k0_t1 : Fin k0_t1_loop.trips) : Fin 2 → Nat :=
  let c8_i32_4305 : BitVec 32 := 8#32
  let c0_i32 : BitVec 32 := 0#32
  let c1_i32 : BitVec 32 := 1#32
  let arg10 : BitVec 32 := Scf.iv c0_i32 c1_i32 k0_t1
  let v12598 : BitVec 32 := Scalar.muli c8_i32_4305 arg10
  let v12599 : Index := Scalar.indexCast v12598
  let c0_4306 : Index := 0#32
  ![v12599.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]
-- ==== ReferenceIdeal.lean ====
abbrev S4x2048x4096 : Shape := ⟨3, ![4, 2048, 4096]⟩
abbrev S65536x32 : Shape := ⟨2, ![65536, 32]⟩
abbrev S65536x1 : Shape := ⟨2, ![65536, 1]⟩
abbrev S131072x1 : Shape := ⟨2, ![131072, 1]⟩
abbrev S128x128 : Shape := ⟨2, ![128, 128]⟩
abbrev S4x2048x32x128 : Shape := ⟨4, ![4, 2048, 32, 128]⟩
abbrev S65536x32x1 : Shape := ⟨3, ![65536, 32, 1]⟩
abbrev S16 : Shape := ⟨1, ![16]⟩
abbrev S_ : Shape := ⟨0, ![]⟩
abbrev S1x1x16 : Shape := ⟨3, ![1, 1, 16]⟩
abbrev S65536x32x16 : Shape := ⟨3, ![65536, 32, 16]⟩
abbrev S65536x512 : Shape := ⟨2, ![65536, 512]⟩
abbrev S256 : Shape := ⟨1, ![256]⟩
abbrev S65536x256 : Shape := ⟨2, ![65536, 256]⟩
abbrev S256x1 : Shape := ⟨2, ![256, 1]⟩
abbrev S65536x256x1 : Shape := ⟨3, ![65536, 256, 1]⟩
abbrev S65536x16x16 : Shape := ⟨3, ![65536, 16, 16]⟩
abbrev S256x256x16x16 : Shape := ⟨4, ![256, 256, 16, 16]⟩
abbrev S256x16x256x16 : Shape := ⟨4, ![256, 16, 256, 16]⟩
abbrev S4096x4096 : Shape := ⟨2, ![4096, 4096]⟩
abbrev S131072x128 : Shape := ⟨2, ![131072, 128]⟩

abbrev nBuf : Space → Nat
  | .hbm => 654
  | .vmem => 0
  | .smem => 0
  | _ => 0

abbrev hbmTy0_0 (i : Nat) : BufTy := match i % 128 with
  | 0 => ⟨S4x2048x4096, .f32⟩
  | 1 => ⟨S65536x32, .i32⟩
  | 2 => ⟨S65536x1, .f32⟩
  | 3 => ⟨S131072x1, .f32⟩
  | 4 => ⟨S128x128, .f32⟩
  | 5 => ⟨S4x2048x32x128, .f32⟩
  | 6 => ⟨S4x2048x32x128, .f32⟩
  | 7 => ⟨S4x2048x4096, .f32⟩
  | 8 => ⟨S65536x32x1, .i32⟩
  | 9 => ⟨S16, .i32⟩
  | 10 => ⟨S_, .i32⟩
  | 11 => ⟨S16, .i32⟩
  | 12 => ⟨S16, .i32⟩
  | 13 => ⟨S1x1x16, .i32⟩
  | 14 => ⟨S65536x32x16, .i32⟩
  | 15 => ⟨S65536x32x16, .i32⟩
  | 16 => ⟨S65536x32x16, .i32⟩
  | 17 => ⟨S_, .i32⟩
  | 18 => ⟨S65536x32x16, .i32⟩
  | 19 => ⟨S65536x32x16, .i32⟩
  | 20 => ⟨S65536x512, .i32⟩
  | 21 => ⟨S256, .i32⟩
  | 22 => ⟨S_, .i32⟩
  | 23 => ⟨S256, .i32⟩
  | 24 => ⟨S256, .i32⟩
  | 25 => ⟨S_, .i32⟩
  | 26 => ⟨S65536x256, .i32⟩
  | 27 => ⟨S_, .i32⟩
  | 28 => ⟨S65536x256, .i32⟩
  | 29 => ⟨S65536x256, .i32⟩
  | 30 => ⟨S_, .i32⟩
  | 31 => ⟨S256, .i32⟩
  | 32 => ⟨S256, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S256, .i32⟩
  | 40 => ⟨S256, .i32⟩
  | 41 => ⟨S_, .i32⟩
  | 42 => ⟨S256, .i32⟩
  | 43 => ⟨S256, .i1⟩
  | 44 => ⟨S_, .i32⟩
  | 45 => ⟨S256, .i32⟩
  | 46 => ⟨S256, .i1⟩
  | 47 => ⟨S_, .i32⟩
  | 48 => ⟨S_, .i1⟩
  | 49 => ⟨S256, .i1⟩
  | 50 => ⟨S256, .i1⟩
  | 51 => ⟨S256, .i1⟩
  | 52 => ⟨S256, .i32⟩
  | 53 => ⟨S256, .i32⟩
  | 54 => ⟨S256, .i32⟩
  | 55 => ⟨S_, .i32⟩
  | 56 => ⟨S256, .i32⟩
  | 57 => ⟨S256, .i1⟩
  | 58 => ⟨S_, .i32⟩
  | 59 => ⟨S256, .i32⟩
  | 60 => ⟨S256, .i32⟩
  | 61 => ⟨S256, .i32⟩
  | 62 => ⟨S256x1, .i32⟩
  | 63 => ⟨S65536x256, .i32⟩
  | 64 => ⟨S65536x256, .i32⟩
  | 65 => ⟨S_, .i32⟩
  | 66 => ⟨S65536x256, .i32⟩
  | 67 => ⟨S65536x256, .i32⟩
  | 68 => ⟨S_, .i32⟩
  | 69 => ⟨S256, .i32⟩
  | 70 => ⟨S256, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S256, .i32⟩
  | 78 => ⟨S256, .i32⟩
  | 79 => ⟨S_, .i32⟩
  | 80 => ⟨S256, .i32⟩
  | 81 => ⟨S256, .i1⟩
  | 82 => ⟨S_, .i32⟩
  | 83 => ⟨S256, .i32⟩
  | 84 => ⟨S256, .i1⟩
  | 85 => ⟨S_, .i32⟩
  | 86 => ⟨S_, .i1⟩
  | 87 => ⟨S256, .i1⟩
  | 88 => ⟨S256, .i1⟩
  | 89 => ⟨S256, .i1⟩
  | 90 => ⟨S256, .i32⟩
  | 91 => ⟨S256, .i32⟩
  | 92 => ⟨S256, .i32⟩
  | 93 => ⟨S_, .i32⟩
  | 94 => ⟨S256, .i32⟩
  | 95 => ⟨S256, .i1⟩
  | 96 => ⟨S_, .i32⟩
  | 97 => ⟨S256, .i32⟩
  | 98 => ⟨S256, .i32⟩
  | 99 => ⟨S256, .i32⟩
  | 100 => ⟨S256x1, .i32⟩
  | 101 => ⟨S65536x256, .i32⟩
  | 102 => ⟨S65536x256, .i32⟩
  | 103 => ⟨S_, .i32⟩
  | 104 => ⟨S65536x256, .i32⟩
  | 105 => ⟨S65536x256, .i32⟩
  | 106 => ⟨S_, .i32⟩
  | 107 => ⟨S256, .i32⟩
  | 108 => ⟨S256, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S256, .i32⟩
  | 116 => ⟨S256, .i32⟩
  | 117 => ⟨S_, .i32⟩
  | 118 => ⟨S256, .i32⟩
  | 119 => ⟨S256, .i1⟩
  | 120 => ⟨S_, .i32⟩
  | 121 => ⟨S256, .i32⟩
  | 122 => ⟨S256, .i1⟩
  | 123 => ⟨S_, .i32⟩
  | 124 => ⟨S_, .i1⟩
  | 125 => ⟨S256, .i1⟩
  | 126 => ⟨S256, .i1⟩
  | 127 => ⟨S256, .i1⟩
  | _ => ⟨S4x2048x4096, .f32⟩

abbrev hbmTy0_1 (i : Nat) : BufTy := match i % 128 with
  | 0 => ⟨S256, .i32⟩
  | 1 => ⟨S256, .i32⟩
  | 2 => ⟨S256, .i32⟩
  | 3 => ⟨S_, .i32⟩
  | 4 => ⟨S256, .i32⟩
  | 5 => ⟨S256, .i1⟩
  | 6 => ⟨S_, .i32⟩
  | 7 => ⟨S256, .i32⟩
  | 8 => ⟨S256, .i32⟩
  | 9 => ⟨S256, .i32⟩
  | 10 => ⟨S256x1, .i32⟩
  | 11 => ⟨S65536x256, .i32⟩
  | 12 => ⟨S65536x256, .i32⟩
  | 13 => ⟨S_, .i32⟩
  | 14 => ⟨S65536x256, .i32⟩
  | 15 => ⟨S65536x256, .i32⟩
  | 16 => ⟨S_, .i32⟩
  | 17 => ⟨S256, .i32⟩
  | 18 => ⟨S256, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S256, .i32⟩
  | 26 => ⟨S256, .i32⟩
  | 27 => ⟨S_, .i32⟩
  | 28 => ⟨S256, .i32⟩
  | 29 => ⟨S256, .i1⟩
  | 30 => ⟨S_, .i32⟩
  | 31 => ⟨S256, .i32⟩
  | 32 => ⟨S256, .i1⟩
  | 33 => ⟨S_, .i32⟩
  | 34 => ⟨S_, .i1⟩
  | 35 => ⟨S256, .i1⟩
  | 36 => ⟨S256, .i1⟩
  | 37 => ⟨S256, .i1⟩
  | 38 => ⟨S256, .i32⟩
  | 39 => ⟨S256, .i32⟩
  | 40 => ⟨S256, .i32⟩
  | 41 => ⟨S_, .i32⟩
  | 42 => ⟨S256, .i32⟩
  | 43 => ⟨S256, .i1⟩
  | 44 => ⟨S_, .i32⟩
  | 45 => ⟨S256, .i32⟩
  | 46 => ⟨S256, .i32⟩
  | 47 => ⟨S256, .i32⟩
  | 48 => ⟨S256x1, .i32⟩
  | 49 => ⟨S65536x256, .i32⟩
  | 50 => ⟨S65536x256, .i32⟩
  | 51 => ⟨S_, .i32⟩
  | 52 => ⟨S65536x256, .i32⟩
  | 53 => ⟨S65536x256, .i32⟩
  | 54 => ⟨S_, .i32⟩
  | 55 => ⟨S256, .i32⟩
  | 56 => ⟨S256, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S256, .i32⟩
  | 64 => ⟨S256, .i32⟩
  | 65 => ⟨S_, .i32⟩
  | 66 => ⟨S256, .i32⟩
  | 67 => ⟨S256, .i1⟩
  | 68 => ⟨S_, .i32⟩
  | 69 => ⟨S256, .i32⟩
  | 70 => ⟨S256, .i1⟩
  | 71 => ⟨S_, .i32⟩
  | 72 => ⟨S_, .i1⟩
  | 73 => ⟨S256, .i1⟩
  | 74 => ⟨S256, .i1⟩
  | 75 => ⟨S256, .i1⟩
  | 76 => ⟨S256, .i32⟩
  | 77 => ⟨S256, .i32⟩
  | 78 => ⟨S256, .i32⟩
  | 79 => ⟨S_, .i32⟩
  | 80 => ⟨S256, .i32⟩
  | 81 => ⟨S256, .i1⟩
  | 82 => ⟨S_, .i32⟩
  | 83 => ⟨S256, .i32⟩
  | 84 => ⟨S256, .i32⟩
  | 85 => ⟨S256, .i32⟩
  | 86 => ⟨S256x1, .i32⟩
  | 87 => ⟨S65536x256, .i32⟩
  | 88 => ⟨S65536x256, .i32⟩
  | 89 => ⟨S_, .i32⟩
  | 90 => ⟨S65536x256, .i32⟩
  | 91 => ⟨S65536x256, .i32⟩
  | 92 => ⟨S_, .i32⟩
  | 93 => ⟨S256, .i32⟩
  | 94 => ⟨S256, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S256, .i32⟩
  | 102 => ⟨S256, .i32⟩
  | 103 => ⟨S_, .i32⟩
  | 104 => ⟨S256, .i32⟩
  | 105 => ⟨S256, .i1⟩
  | 106 => ⟨S_, .i32⟩
  | 107 => ⟨S256, .i32⟩
  | 108 => ⟨S256, .i1⟩
  | 109 => ⟨S_, .i32⟩
  | 110 => ⟨S_, .i1⟩
  | 111 => ⟨S256, .i1⟩
  | 112 => ⟨S256, .i1⟩
  | 113 => ⟨S256, .i1⟩
  | 114 => ⟨S256, .i32⟩
  | 115 => ⟨S256, .i32⟩
  | 116 => ⟨S256, .i32⟩
  | 117 => ⟨S_, .i32⟩
  | 118 => ⟨S256, .i32⟩
  | 119 => ⟨S256, .i1⟩
  | 120 => ⟨S_, .i32⟩
  | 121 => ⟨S256, .i32⟩
  | 122 => ⟨S256, .i32⟩
  | 123 => ⟨S256, .i32⟩
  | 124 => ⟨S256x1, .i32⟩
  | 125 => ⟨S65536x256, .i32⟩
  | 126 => ⟨S65536x256, .i32⟩
  | 127 => ⟨S_, .i32⟩
  | _ => ⟨S4x2048x4096, .f32⟩

abbrev hbmTy0_2 (i : Nat) : BufTy := match i % 128 with
  | 0 => ⟨S65536x256, .i32⟩
  | 1 => ⟨S65536x256, .i32⟩
  | 2 => ⟨S_, .i32⟩
  | 3 => ⟨S256, .i32⟩
  | 4 => ⟨S256, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S256, .i32⟩
  | 12 => ⟨S256, .i32⟩
  | 13 => ⟨S_, .i32⟩
  | 14 => ⟨S256, .i32⟩
  | 15 => ⟨S256, .i1⟩
  | 16 => ⟨S_, .i32⟩
  | 17 => ⟨S256, .i32⟩
  | 18 => ⟨S256, .i1⟩
  | 19 => ⟨S_, .i32⟩
  | 20 => ⟨S_, .i1⟩
  | 21 => ⟨S256, .i1⟩
  | 22 => ⟨S256, .i1⟩
  | 23 => ⟨S256, .i1⟩
  | 24 => ⟨S256, .i32⟩
  | 25 => ⟨S256, .i32⟩
  | 26 => ⟨S256, .i32⟩
  | 27 => ⟨S_, .i32⟩
  | 28 => ⟨S256, .i32⟩
  | 29 => ⟨S256, .i1⟩
  | 30 => ⟨S_, .i32⟩
  | 31 => ⟨S256, .i32⟩
  | 32 => ⟨S256, .i32⟩
  | 33 => ⟨S256, .i32⟩
  | 34 => ⟨S256x1, .i32⟩
  | 35 => ⟨S65536x256, .i32⟩
  | 36 => ⟨S65536x256, .i32⟩
  | 37 => ⟨S_, .i32⟩
  | 38 => ⟨S65536x256, .i32⟩
  | 39 => ⟨S65536x256, .i32⟩
  | 40 => ⟨S_, .i32⟩
  | 41 => ⟨S256, .i32⟩
  | 42 => ⟨S256, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S256, .i32⟩
  | 50 => ⟨S256, .i32⟩
  | 51 => ⟨S_, .i32⟩
  | 52 => ⟨S256, .i32⟩
  | 53 => ⟨S256, .i1⟩
  | 54 => ⟨S_, .i32⟩
  | 55 => ⟨S256, .i32⟩
  | 56 => ⟨S256, .i1⟩
  | 57 => ⟨S_, .i32⟩
  | 58 => ⟨S_, .i1⟩
  | 59 => ⟨S256, .i1⟩
  | 60 => ⟨S256, .i1⟩
  | 61 => ⟨S256, .i1⟩
  | 62 => ⟨S256, .i32⟩
  | 63 => ⟨S256, .i32⟩
  | 64 => ⟨S256, .i32⟩
  | 65 => ⟨S_, .i32⟩
  | 66 => ⟨S256, .i32⟩
  | 67 => ⟨S256, .i1⟩
  | 68 => ⟨S_, .i32⟩
  | 69 => ⟨S256, .i32⟩
  | 70 => ⟨S256, .i32⟩
  | 71 => ⟨S256, .i32⟩
  | 72 => ⟨S256x1, .i32⟩
  | 73 => ⟨S65536x256, .i32⟩
  | 74 => ⟨S65536x256, .i32⟩
  | 75 => ⟨S_, .i32⟩
  | 76 => ⟨S65536x256, .i32⟩
  | 77 => ⟨S65536x256, .i32⟩
  | 78 => ⟨S_, .i32⟩
  | 79 => ⟨S256, .i32⟩
  | 80 => ⟨S256, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S256, .i32⟩
  | 88 => ⟨S256, .i32⟩
  | 89 => ⟨S_, .i32⟩
  | 90 => ⟨S256, .i32⟩
  | 91 => ⟨S256, .i1⟩
  | 92 => ⟨S_, .i32⟩
  | 93 => ⟨S256, .i32⟩
  | 94 => ⟨S256, .i1⟩
  | 95 => ⟨S_, .i32⟩
  | 96 => ⟨S_, .i1⟩
  | 97 => ⟨S256, .i1⟩
  | 98 => ⟨S256, .i1⟩
  | 99 => ⟨S256, .i1⟩
  | 100 => ⟨S256, .i32⟩
  | 101 => ⟨S256, .i32⟩
  | 102 => ⟨S256, .i32⟩
  | 103 => ⟨S_, .i32⟩
  | 104 => ⟨S256, .i32⟩
  | 105 => ⟨S256, .i1⟩
  | 106 => ⟨S_, .i32⟩
  | 107 => ⟨S256, .i32⟩
  | 108 => ⟨S256, .i32⟩
  | 109 => ⟨S256, .i32⟩
  | 110 => ⟨S256x1, .i32⟩
  | 111 => ⟨S65536x256, .i32⟩
  | 112 => ⟨S65536x256, .i32⟩
  | 113 => ⟨S_, .i32⟩
  | 114 => ⟨S65536x256, .i32⟩
  | 115 => ⟨S65536x256, .i32⟩
  | 116 => ⟨S_, .i32⟩
  | 117 => ⟨S256, .i32⟩
  | 118 => ⟨S256, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S256, .i32⟩
  | 126 => ⟨S256, .i32⟩
  | 127 => ⟨S_, .i32⟩
  | _ => ⟨S4x2048x4096, .f32⟩

abbrev hbmTy0_3 (i : Nat) : BufTy := match i % 128 with
  | 0 => ⟨S256, .i32⟩
  | 1 => ⟨S256, .i1⟩
  | 2 => ⟨S_, .i32⟩
  | 3 => ⟨S256, .i32⟩
  | 4 => ⟨S256, .i1⟩
  | 5 => ⟨S_, .i32⟩
  | 6 => ⟨S_, .i1⟩
  | 7 => ⟨S256, .i1⟩
  | 8 => ⟨S256, .i1⟩
  | 9 => ⟨S256, .i1⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S_, .i32⟩
  | 17 => ⟨S256, .i32⟩
  | 18 => ⟨S256, .i32⟩
  | 19 => ⟨S256, .i32⟩
  | 20 => ⟨S256x1, .i32⟩
  | 21 => ⟨S65536x256, .i32⟩
  | 22 => ⟨S65536x256, .i32⟩
  | 23 => ⟨S_, .i32⟩
  | 24 => ⟨S65536x256, .i32⟩
  | 25 => ⟨S65536x256, .i32⟩
  | 26 => ⟨S_, .i32⟩
  | 27 => ⟨S256, .i32⟩
  | 28 => ⟨S256, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S256, .i32⟩
  | 36 => ⟨S256, .i32⟩
  | 37 => ⟨S_, .i32⟩
  | 38 => ⟨S256, .i32⟩
  | 39 => ⟨S256, .i1⟩
  | 40 => ⟨S_, .i32⟩
  | 41 => ⟨S256, .i32⟩
  | 42 => ⟨S256, .i1⟩
  | 43 => ⟨S_, .i32⟩
  | 44 => ⟨S_, .i1⟩
  | 45 => ⟨S256, .i1⟩
  | 46 => ⟨S256, .i1⟩
  | 47 => ⟨S256, .i1⟩
  | 48 => ⟨S256, .i32⟩
  | 49 => ⟨S256, .i32⟩
  | 50 => ⟨S256, .i32⟩
  | 51 => ⟨S_, .i32⟩
  | 52 => ⟨S256, .i32⟩
  | 53 => ⟨S256, .i1⟩
  | 54 => ⟨S_, .i32⟩
  | 55 => ⟨S256, .i32⟩
  | 56 => ⟨S256, .i32⟩
  | 57 => ⟨S256, .i32⟩
  | 58 => ⟨S256x1, .i32⟩
  | 59 => ⟨S65536x256, .i32⟩
  | 60 => ⟨S65536x256, .i32⟩
  | 61 => ⟨S_, .i32⟩
  | 62 => ⟨S65536x256, .i32⟩
  | 63 => ⟨S65536x256, .i32⟩
  | 64 => ⟨S_, .i32⟩
  | 65 => ⟨S256, .i32⟩
  | 66 => ⟨S256, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S256, .i32⟩
  | 74 => ⟨S256, .i32⟩
  | 75 => ⟨S_, .i32⟩
  | 76 => ⟨S256, .i32⟩
  | 77 => ⟨S256, .i1⟩
  | 78 => ⟨S_, .i32⟩
  | 79 => ⟨S256, .i32⟩
  | 80 => ⟨S256, .i1⟩
  | 81 => ⟨S_, .i32⟩
  | 82 => ⟨S_, .i1⟩
  | 83 => ⟨S256, .i1⟩
  | 84 => ⟨S256, .i1⟩
  | 85 => ⟨S256, .i1⟩
  | 86 => ⟨S256, .i32⟩
  | 87 => ⟨S256, .i32⟩
  | 88 => ⟨S256, .i32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S256x1, .i32⟩
  | 97 => ⟨S65536x256, .i32⟩
  | 98 => ⟨S65536x256, .i32⟩
  | 99 => ⟨S_, .i32⟩
  | 100 => ⟨S65536x256, .i32⟩
  | 101 => ⟨S65536x256, .i32⟩
  | 102 => ⟨S_, .i32⟩
  | 103 => ⟨S256, .i32⟩
  | 104 => ⟨S256, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S256, .i32⟩
  | 112 => ⟨S256, .i32⟩
  | 113 => ⟨S_, .i32⟩
  | 114 => ⟨S256, .i32⟩
  | 115 => ⟨S256, .i1⟩
  | 116 => ⟨S_, .i32⟩
  | 117 => ⟨S256, .i32⟩
  | 118 => ⟨S256, .i1⟩
  | 119 => ⟨S_, .i32⟩
  | 120 => ⟨S_, .i1⟩
  | 121 => ⟨S256, .i1⟩
  | 122 => ⟨S256, .i1⟩
  | 123 => ⟨S256, .i1⟩
  | 124 => ⟨S256, .i32⟩
  | 125 => ⟨S256, .i32⟩
  | 126 => ⟨S256, .i32⟩
  | 127 => ⟨S_, .i32⟩
  | _ => ⟨S4x2048x4096, .f32⟩

abbrev hbmTy0_4 (i : Nat) : BufTy := match i % 128 with
  | 0 => ⟨S256, .i32⟩
  | 1 => ⟨S256, .i1⟩
  | 2 => ⟨S_, .i32⟩
  | 3 => ⟨S256, .i32⟩
  | 4 => ⟨S256, .i32⟩
  | 5 => ⟨S256, .i32⟩
  | 6 => ⟨S256x1, .i32⟩
  | 7 => ⟨S65536x256, .i32⟩
  | 8 => ⟨S65536x256, .i32⟩
  | 9 => ⟨S_, .i32⟩
  | 10 => ⟨S65536x256, .i32⟩
  | 11 => ⟨S65536x256, .i32⟩
  | 12 => ⟨S_, .i32⟩
  | 13 => ⟨S256, .i32⟩
  | 14 => ⟨S256, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S256, .i32⟩
  | 22 => ⟨S256, .i32⟩
  | 23 => ⟨S_, .i32⟩
  | 24 => ⟨S256, .i32⟩
  | 25 => ⟨S256, .i1⟩
  | 26 => ⟨S_, .i32⟩
  | 27 => ⟨S256, .i32⟩
  | 28 => ⟨S256, .i1⟩
  | 29 => ⟨S_, .i32⟩
  | 30 => ⟨S_, .i1⟩
  | 31 => ⟨S256, .i1⟩
  | 32 => ⟨S256, .i1⟩
  | 33 => ⟨S256, .i1⟩
  | 34 => ⟨S256, .i32⟩
  | 35 => ⟨S256, .i32⟩
  | 36 => ⟨S256, .i32⟩
  | 37 => ⟨S_, .i32⟩
  | 38 => ⟨S256, .i32⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S65536x256, .i32⟩
  | 46 => ⟨S65536x256, .i32⟩
  | 47 => ⟨S_, .i32⟩
  | 48 => ⟨S65536x256, .i32⟩
  | 49 => ⟨S65536x256, .i32⟩
  | 50 => ⟨S_, .i32⟩
  | 51 => ⟨S256, .i32⟩
  | 52 => ⟨S256, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S256, .i32⟩
  | 60 => ⟨S256, .i32⟩
  | 61 => ⟨S_, .i32⟩
  | 62 => ⟨S256, .i32⟩
  | 63 => ⟨S256, .i1⟩
  | 64 => ⟨S_, .i32⟩
  | 65 => ⟨S256, .i32⟩
  | 66 => ⟨S256, .i1⟩
  | 67 => ⟨S_, .i32⟩
  | 68 => ⟨S_, .i1⟩
  | 69 => ⟨S256, .i1⟩
  | 70 => ⟨S256, .i1⟩
  | 71 => ⟨S256, .i1⟩
  | 72 => ⟨S256, .i32⟩
  | 73 => ⟨S256, .i32⟩
  | 74 => ⟨S256, .i32⟩
  | 75 => ⟨S_, .i32⟩
  | 76 => ⟨S256, .i32⟩
  | 77 => ⟨S256, .i1⟩
  | 78 => ⟨S_, .i32⟩
  | 79 => ⟨S256, .i32⟩
  | 80 => ⟨S256, .i32⟩
  | 81 => ⟨S256, .i32⟩
  | 82 => ⟨S256x1, .i32⟩
  | 83 => ⟨S65536x256, .i32⟩
  | 84 => ⟨S65536x256, .i32⟩
  | 85 => ⟨S_, .i32⟩
  | 86 => ⟨S65536x256, .i32⟩
  | 87 => ⟨S65536x256, .i32⟩
  | 88 => ⟨S_, .i32⟩
  | 89 => ⟨S256, .i32⟩
  | 90 => ⟨S256, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S256, .i32⟩
  | 98 => ⟨S256, .i32⟩
  | 99 => ⟨S_, .i32⟩
  | 100 => ⟨S256, .i32⟩
  | 101 => ⟨S256, .i1⟩
  | 102 => ⟨S_, .i32⟩
  | 103 => ⟨S256, .i32⟩
  | 104 => ⟨S256, .i1⟩
  | 105 => ⟨S_, .i32⟩
  | 106 => ⟨S_, .i1⟩
  | 107 => ⟨S256, .i1⟩
  | 108 => ⟨S256, .i1⟩
  | 109 => ⟨S256, .i1⟩
  | 110 => ⟨S256, .i32⟩
  | 111 => ⟨S256, .i32⟩
  | 112 => ⟨S256, .i32⟩
  | 113 => ⟨S_, .i32⟩
  | 114 => ⟨S256, .i32⟩
  | 115 => ⟨S256, .i1⟩
  | 116 => ⟨S_, .i32⟩
  | 117 => ⟨S256, .i32⟩
  | 118 => ⟨S256, .i32⟩
  | 119 => ⟨S256, .i32⟩
  | 120 => ⟨S256x1, .i32⟩
  | 121 => ⟨S65536x256, .i32⟩
  | 122 => ⟨S65536x256, .i32⟩
  | 123 => ⟨S_, .i32⟩
  | 124 => ⟨S65536x256, .i32⟩
  | 125 => ⟨S65536x256, .i1⟩
  | 126 => ⟨S_, .i32⟩
  | 127 => ⟨S65536x256, .i32⟩
  | _ => ⟨S4x2048x4096, .f32⟩

abbrev hbmTy0_5 (i : Nat) : BufTy := match i % 128 with
  | 0 => ⟨S65536x256, .i32⟩
  | 1 => ⟨S65536x256, .i32⟩
  | 2 => ⟨S65536x256x1, .i32⟩
  | 3 => ⟨S65536x256x1, .f32⟩
  | 4 => ⟨S65536x16x16, .f32⟩
  | 5 => ⟨S256x256x16x16, .f32⟩
  | 6 => ⟨S256x16x256x16, .f32⟩
  | 7 => ⟨S4096x4096, .f32⟩
  | 8 => ⟨S131072x128, .f32⟩
  | 9 => ⟨S131072x128, .f32⟩
  | 10 => ⟨S131072x128, .f32⟩
  | 11 => ⟨S4096x4096, .f32⟩
  | 12 => ⟨S4096x4096, .f32⟩
  | 13 => ⟨S4x2048x4096, .f32⟩
  | _ => ⟨S4x2048x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v22 : Ref sig .tc := ⟨.hbm, 54, rfl⟩
abbrev main_c_6 : Ref sig .tc := ⟨.hbm, 55, rfl⟩
abbrev main_v23 : Ref sig .tc := ⟨.hbm, 56, rfl⟩
abbrev main_v24 : Ref sig .tc := ⟨.hbm, 57, rfl⟩
abbrev main_c_7 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_8 : Ref sig .tc := ⟨.hbm, 65, rfl⟩
abbrev main_v31 : Ref sig .tc := ⟨.hbm, 66, rfl⟩
abbrev main_v32 : Ref sig .tc := ⟨.hbm, 67, rfl⟩
abbrev main_c_9 : Ref sig .tc := ⟨.hbm, 68, rfl⟩
abbrev main_v33 : Ref sig .tc := ⟨.hbm, 69, rfl⟩
abbrev main_v34 : Ref sig .tc := ⟨.hbm, 70, rfl⟩
abbrev main_c_10 : Ref sig .tc := ⟨.hbm, 71, rfl⟩
abbrev main_call1_v0 : Ref sig .tc := ⟨.hbm, 72, rfl⟩
abbrev main_call1_c : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_c_1 : Ref sig .tc := ⟨.hbm, 79, rfl⟩
abbrev main_call1_v5 : Ref sig .tc := ⟨.hbm, 80, rfl⟩
abbrev main_call1_v6 : Ref sig .tc := ⟨.hbm, 81, rfl⟩
abbrev main_call1_c_2 : Ref sig .tc := ⟨.hbm, 82, rfl⟩
abbrev main_call1_v7 : Ref sig .tc := ⟨.hbm, 83, rfl⟩
abbrev main_call1_v8 : Ref sig .tc := ⟨.hbm, 84, rfl⟩
abbrev main_call1_c_3 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_v35 : Ref sig .tc := ⟨.hbm, 92, rfl⟩
abbrev main_c_11 : Ref sig .tc := ⟨.hbm, 93, rfl⟩
abbrev main_v36 : Ref sig .tc := ⟨.hbm, 94, rfl⟩
abbrev main_v37 : Ref sig .tc := ⟨.hbm, 95, rfl⟩
abbrev main_c_12 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c_13 : Ref sig .tc := ⟨.hbm, 103, rfl⟩
abbrev main_v44 : Ref sig .tc := ⟨.hbm, 104, rfl⟩
abbrev main_v45 : Ref sig .tc := ⟨.hbm, 105, rfl⟩
abbrev main_c_14 : Ref sig .tc := ⟨.hbm, 106, rfl⟩
abbrev main_v46 : Ref sig .tc := ⟨.hbm, 107, rfl⟩
abbrev main_v47 : Ref sig .tc := ⟨.hbm, 108, rfl⟩
abbrev main_c_15 : Ref sig .tc := ⟨.hbm, 109, rfl⟩
abbrev main_call2_v0 : Ref sig .tc := ⟨.hbm, 110, rfl⟩
abbrev main_call2_c : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_c_1 : Ref sig .tc := ⟨.hbm, 117, rfl⟩
abbrev main_call2_v5 : Ref sig .tc := ⟨.hbm, 118, rfl⟩
abbrev main_call2_v6 : Ref sig .tc := ⟨.hbm, 119, rfl⟩
abbrev main_call2_c_2 : Ref sig .tc := ⟨.hbm, 120, rfl⟩
abbrev main_call2_v7 : Ref sig .tc := ⟨.hbm, 121, rfl⟩
abbrev main_call2_v8 : Ref sig .tc := ⟨.hbm, 122, rfl⟩
abbrev main_call2_c_3 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_v48 : Ref sig .tc := ⟨.hbm, 130, rfl⟩
abbrev main_c_16 : Ref sig .tc := ⟨.hbm, 131, rfl⟩
abbrev main_v49 : Ref sig .tc := ⟨.hbm, 132, rfl⟩
abbrev main_v50 : Ref sig .tc := ⟨.hbm, 133, rfl⟩
abbrev main_c_17 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_c_18 : Ref sig .tc := ⟨.hbm, 141, rfl⟩
abbrev main_v57 : Ref sig .tc := ⟨.hbm, 142, rfl⟩
abbrev main_v58 : Ref sig .tc := ⟨.hbm, 143, rfl⟩
abbrev main_c_19 : Ref sig .tc := ⟨.hbm, 144, rfl⟩
abbrev main_v59 : Ref sig .tc := ⟨.hbm, 145, rfl⟩
abbrev main_v60 : Ref sig .tc := ⟨.hbm, 146, rfl⟩
abbrev main_c_20 : Ref sig .tc := ⟨.hbm, 147, rfl⟩
abbrev main_call3_v0 : Ref sig .tc := ⟨.hbm, 148, rfl⟩
abbrev main_call3_c : Ref sig .tc := ⟨.hbm, 149, rfl⟩
abbrev main_call3_v1 : Ref sig .tc := ⟨.hbm, 150, rfl⟩
abbrev main_call3_c_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_c_1 : Ref sig .tc := ⟨.hbm, 155, rfl⟩
abbrev main_call3_v5 : Ref sig .tc := ⟨.hbm, 156, rfl⟩
abbrev main_call3_v6 : Ref sig .tc := ⟨.hbm, 157, rfl⟩
abbrev main_call3_c_2 : Ref sig .tc := ⟨.hbm, 158, rfl⟩
abbrev main_call3_v7 : Ref sig .tc := ⟨.hbm, 159, rfl⟩
abbrev main_call3_v8 : Ref sig .tc := ⟨.hbm, 160, rfl⟩
abbrev main_call3_c_3 : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_v12 : Ref sig .tc := ⟨.hbm, 165, rfl⟩
abbrev main_call3_v13 : Ref sig .tc := ⟨.hbm, 166, rfl⟩
abbrev main_call3_v14 : Ref sig .tc := ⟨.hbm, 167, rfl⟩
abbrev main_v61 : Ref sig .tc := ⟨.hbm, 168, rfl⟩
abbrev main_c_21 : Ref sig .tc := ⟨.hbm, 169, rfl⟩
abbrev main_v62 : Ref sig .tc := ⟨.hbm, 170, rfl⟩
abbrev main_v63 : Ref sig .tc := ⟨.hbm, 171, rfl⟩
abbrev main_c_22 : Ref sig .tc := ⟨.hbm, 172, rfl⟩
abbrev main_v64 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_c_23 : Ref sig .tc := ⟨.hbm, 179, rfl⟩
abbrev main_v70 : Ref sig .tc := ⟨.hbm, 180, rfl⟩
abbrev main_v71 : Ref sig .tc := ⟨.hbm, 181, rfl⟩
abbrev main_c_24 : Ref sig .tc := ⟨.hbm, 182, rfl⟩
abbrev main_v72 : Ref sig .tc := ⟨.hbm, 183, rfl⟩
abbrev main_v73 : Ref sig .tc := ⟨.hbm, 184, rfl⟩
abbrev main_c_25 : Ref sig .tc := ⟨.hbm, 185, rfl⟩
abbrev main_call4_v0 : Ref sig .tc := ⟨.hbm, 186, rfl⟩
abbrev main_call4_c : Ref sig .tc := ⟨.hbm, 187, rfl⟩
abbrev main_call4_v1 : Ref sig .tc := ⟨.hbm, 188, rfl⟩
abbrev main_call4_c_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_c_1 : Ref sig .tc := ⟨.hbm, 193, rfl⟩
abbrev main_call4_v5 : Ref sig .tc := ⟨.hbm, 194, rfl⟩
abbrev main_call4_v6 : Ref sig .tc := ⟨.hbm, 195, rfl⟩
abbrev main_call4_c_2 : Ref sig .tc := ⟨.hbm, 196, rfl⟩
abbrev main_call4_v7 : Ref sig .tc := ⟨.hbm, 197, rfl⟩
abbrev main_call4_v8 : Ref sig .tc := ⟨.hbm, 198, rfl⟩
abbrev main_call4_c_3 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_v12 : Ref sig .tc := ⟨.hbm, 203, rfl⟩
abbrev main_call4_v13 : Ref sig .tc := ⟨.hbm, 204, rfl⟩
abbrev main_call4_v14 : Ref sig .tc := ⟨.hbm, 205, rfl⟩
abbrev main_v74 : Ref sig .tc := ⟨.hbm, 206, rfl⟩
abbrev main_c_26 : Ref sig .tc := ⟨.hbm, 207, rfl⟩
abbrev main_v75 : Ref sig .tc := ⟨.hbm, 208, rfl⟩
abbrev main_v76 : Ref sig .tc := ⟨.hbm, 209, rfl⟩
abbrev main_c_27 : Ref sig .tc := ⟨.hbm, 210, rfl⟩
abbrev main_v77 : Ref sig .tc := ⟨.hbm, 211, rfl⟩
abbrev main_v78 : Ref sig .tc := ⟨.hbm, 212, rfl⟩
abbrev main_v79 : Ref sig .tc := ⟨.hbm, 213, rfl⟩
abbrev main_v80 : Ref sig .tc := ⟨.hbm, 214, rfl⟩
abbrev main_v81 : Ref sig .tc := ⟨.hbm, 215, rfl⟩
abbrev main_v82 : Ref sig .tc := ⟨.hbm, 216, rfl⟩
abbrev main_c_28 : Ref sig .tc := ⟨.hbm, 217, rfl⟩
abbrev main_v83 : Ref sig .tc := ⟨.hbm, 218, rfl⟩
abbrev main_v84 : Ref sig .tc := ⟨.hbm, 219, rfl⟩
abbrev main_c_29 : Ref sig .tc := ⟨.hbm, 220, rfl⟩
abbrev main_v85 : Ref sig .tc := ⟨.hbm, 221, rfl⟩
abbrev main_v86 : Ref sig .tc := ⟨.hbm, 222, rfl⟩
abbrev main_c_30 : Ref sig .tc := ⟨.hbm, 223, rfl⟩
abbrev main_call5_v0 : Ref sig .tc := ⟨.hbm, 224, rfl⟩
abbrev main_call5_c : Ref sig .tc := ⟨.hbm, 225, rfl⟩
abbrev main_call5_v1 : Ref sig .tc := ⟨.hbm, 226, rfl⟩
abbrev main_call5_c_0 : Ref sig .tc := ⟨.hbm, 227, rfl⟩
abbrev main_call5_v2 : Ref sig .tc := ⟨.hbm, 228, rfl⟩
abbrev main_call5_v3 : Ref sig .tc := ⟨.hbm, 229, rfl⟩
abbrev main_call5_v4 : Ref sig .tc := ⟨.hbm, 230, rfl⟩
abbrev main_call5_c_1 : Ref sig .tc := ⟨.hbm, 231, rfl⟩
abbrev main_call5_v5 : Ref sig .tc := ⟨.hbm, 232, rfl⟩
abbrev main_call5_v6 : Ref sig .tc := ⟨.hbm, 233, rfl⟩
abbrev main_call5_c_2 : Ref sig .tc := ⟨.hbm, 234, rfl⟩
abbrev main_call5_v7 : Ref sig .tc := ⟨.hbm, 235, rfl⟩
abbrev main_call5_v8 : Ref sig .tc := ⟨.hbm, 236, rfl⟩
abbrev main_call5_c_3 : Ref sig .tc := ⟨.hbm, 237, rfl⟩
abbrev main_call5_v9 : Ref sig .tc := ⟨.hbm, 238, rfl⟩
abbrev main_call5_v10 : Ref sig .tc := ⟨.hbm, 239, rfl⟩
abbrev main_call5_v11 : Ref sig .tc := ⟨.hbm, 240, rfl⟩
abbrev main_call5_v12 : Ref sig .tc := ⟨.hbm, 241, rfl⟩
abbrev main_call5_v13 : Ref sig .tc := ⟨.hbm, 242, rfl⟩
abbrev main_call5_v14 : Ref sig .tc := ⟨.hbm, 243, rfl⟩
abbrev main_v87 : Ref sig .tc := ⟨.hbm, 244, rfl⟩
abbrev main_c_31 : Ref sig .tc := ⟨.hbm, 245, rfl⟩
abbrev main_v88 : Ref sig .tc := ⟨.hbm, 246, rfl⟩
abbrev main_v89 : Ref sig .tc := ⟨.hbm, 247, rfl⟩
abbrev main_c_32 : Ref sig .tc := ⟨.hbm, 248, rfl⟩
abbrev main_v90 : Ref sig .tc := ⟨.hbm, 249, rfl⟩
abbrev main_v91 : Ref sig .tc := ⟨.hbm, 250, rfl⟩
abbrev main_v92 : Ref sig .tc := ⟨.hbm, 251, rfl⟩
abbrev main_v93 : Ref sig .tc := ⟨.hbm, 252, rfl⟩
abbrev main_v94 : Ref sig .tc := ⟨.hbm, 253, rfl⟩
abbrev main_v95 : Ref sig .tc := ⟨.hbm, 254, rfl⟩
abbrev main_c_33 : Ref sig .tc := ⟨.hbm, 255, rfl⟩
abbrev main_v96 : Ref sig .tc := ⟨.hbm, 256, rfl⟩
abbrev main_v97 : Ref sig .tc := ⟨.hbm, 257, rfl⟩
abbrev main_c_34 : Ref sig .tc := ⟨.hbm, 258, rfl⟩
abbrev main_v98 : Ref sig .tc := ⟨.hbm, 259, rfl⟩
abbrev main_v99 : Ref sig .tc := ⟨.hbm, 260, rfl⟩
abbrev main_c_35 : Ref sig .tc := ⟨.hbm, 261, rfl⟩
abbrev main_call6_v0 : Ref sig .tc := ⟨.hbm, 262, rfl⟩
abbrev main_call6_c : Ref sig .tc := ⟨.hbm, 263, rfl⟩
abbrev main_call6_v1 : Ref sig .tc := ⟨.hbm, 264, rfl⟩
abbrev main_call6_c_0 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_call6_c_1 : Ref sig .tc := ⟨.hbm, 269, rfl⟩
abbrev main_call6_v5 : Ref sig .tc := ⟨.hbm, 270, rfl⟩
abbrev main_call6_v6 : Ref sig .tc := ⟨.hbm, 271, rfl⟩
abbrev main_call6_c_2 : Ref sig .tc := ⟨.hbm, 272, rfl⟩
abbrev main_call6_v7 : Ref sig .tc := ⟨.hbm, 273, rfl⟩
abbrev main_call6_v8 : Ref sig .tc := ⟨.hbm, 274, rfl⟩
abbrev main_call6_c_3 : Ref sig .tc := ⟨.hbm, 275, rfl⟩
abbrev main_call6_v9 : Ref sig .tc := ⟨.hbm, 276, rfl⟩
abbrev main_call6_v10 : Ref sig .tc := ⟨.hbm, 277, rfl⟩
abbrev main_call6_v11 : Ref sig .tc := ⟨.hbm, 278, rfl⟩
abbrev main_call6_v12 : Ref sig .tc := ⟨.hbm, 279, rfl⟩
abbrev main_call6_v13 : Ref sig .tc := ⟨.hbm, 280, rfl⟩
abbrev main_call6_v14 : Ref sig .tc := ⟨.hbm, 281, rfl⟩
abbrev main_v100 : Ref sig .tc := ⟨.hbm, 282, rfl⟩
abbrev main_c_36 : Ref sig .tc := ⟨.hbm, 283, rfl⟩
abbrev main_v101 : Ref sig .tc := ⟨.hbm, 284, rfl⟩
abbrev main_v102 : Ref sig .tc := ⟨.hbm, 285, rfl⟩
abbrev main_c_37 : Ref sig .tc := ⟨.hbm, 286, rfl⟩
abbrev main_v103 : Ref sig .tc := ⟨.hbm, 287, rfl⟩
abbrev main_v104 : Ref sig .tc := ⟨.hbm, 288, rfl⟩
abbrev main_v105 : Ref sig .tc := ⟨.hbm, 289, rfl⟩
abbrev main_v106 : Ref sig .tc := ⟨.hbm, 290, rfl⟩
abbrev main_v107 : Ref sig .tc := ⟨.hbm, 291, rfl⟩
abbrev main_v108 : Ref sig .tc := ⟨.hbm, 292, rfl⟩
abbrev main_c_38 : Ref sig .tc := ⟨.hbm, 293, rfl⟩
abbrev main_v109 : Ref sig .tc := ⟨.hbm, 294, rfl⟩
abbrev main_v110 : Ref sig .tc := ⟨.hbm, 295, rfl⟩
abbrev main_c_39 : Ref sig .tc := ⟨.hbm, 296, rfl⟩
abbrev main_v111 : Ref sig .tc := ⟨.hbm, 297, rfl⟩
abbrev main_v112 : Ref sig .tc := ⟨.hbm, 298, rfl⟩
abbrev main_c_40 : Ref sig .tc := ⟨.hbm, 299, rfl⟩
abbrev main_call7_v0 : Ref sig .tc := ⟨.hbm, 300, rfl⟩
abbrev main_call7_c : Ref sig .tc := ⟨.hbm, 301, rfl⟩
abbrev main_call7_v1 : Ref sig .tc := ⟨.hbm, 302, rfl⟩
abbrev main_call7_c_0 : Ref sig .tc := ⟨.hbm, 303, rfl⟩
abbrev main_call7_v2 : Ref sig .tc := ⟨.hbm, 304, rfl⟩
abbrev main_call7_v3 : Ref sig .tc := ⟨.hbm, 305, rfl⟩
abbrev main_call7_v4 : Ref sig .tc := ⟨.hbm, 306, rfl⟩
abbrev main_call7_c_1 : Ref sig .tc := ⟨.hbm, 307, rfl⟩
abbrev main_call7_v5 : Ref sig .tc := ⟨.hbm, 308, rfl⟩
abbrev main_call7_v6 : Ref sig .tc := ⟨.hbm, 309, rfl⟩
abbrev main_call7_c_2 : Ref sig .tc := ⟨.hbm, 310, rfl⟩
abbrev main_call7_v7 : Ref sig .tc := ⟨.hbm, 311, rfl⟩
abbrev main_call7_v8 : Ref sig .tc := ⟨.hbm, 312, rfl⟩
abbrev main_call7_c_3 : Ref sig .tc := ⟨.hbm, 313, rfl⟩
abbrev main_call7_v9 : Ref sig .tc := ⟨.hbm, 314, rfl⟩
abbrev main_call7_v10 : Ref sig .tc := ⟨.hbm, 315, rfl⟩
abbrev main_call7_v11 : Ref sig .tc := ⟨.hbm, 316, rfl⟩
abbrev main_call7_v12 : Ref sig .tc := ⟨.hbm, 317, rfl⟩
abbrev main_call7_v13 : Ref sig .tc := ⟨.hbm, 318, rfl⟩
abbrev main_call7_v14 : Ref sig .tc := ⟨.hbm, 319, rfl⟩
abbrev main_v113 : Ref sig .tc := ⟨.hbm, 320, rfl⟩
abbrev main_c_41 : Ref sig .tc := ⟨.hbm, 321, rfl⟩
abbrev main_v114 : Ref sig .tc := ⟨.hbm, 322, rfl⟩
abbrev main_v115 : Ref sig .tc := ⟨.hbm, 323, rfl⟩
abbrev main_c_42 : Ref sig .tc := ⟨.hbm, 324, rfl⟩
abbrev main_v116 : Ref sig .tc := ⟨.hbm, 325, rfl⟩
abbrev main_v117 : Ref sig .tc := ⟨.hbm, 326, rfl⟩
abbrev main_v118 : Ref sig .tc := ⟨.hbm, 327, rfl⟩
abbrev main_v119 : Ref sig .tc := ⟨.hbm, 328, rfl⟩
abbrev main_v120 : Ref sig .tc := ⟨.hbm, 329, rfl⟩
abbrev main_v121 : Ref sig .tc := ⟨.hbm, 330, rfl⟩
abbrev main_c_43 : Ref sig .tc := ⟨.hbm, 331, rfl⟩
abbrev main_v122 : Ref sig .tc := ⟨.hbm, 332, rfl⟩
abbrev main_v123 : Ref sig .tc := ⟨.hbm, 333, rfl⟩
abbrev main_c_44 : Ref sig .tc := ⟨.hbm, 334, rfl⟩
abbrev main_v124 : Ref sig .tc := ⟨.hbm, 335, rfl⟩
abbrev main_v125 : Ref sig .tc := ⟨.hbm, 336, rfl⟩
abbrev main_c_45 : Ref sig .tc := ⟨.hbm, 337, rfl⟩
abbrev main_call8_v0 : Ref sig .tc := ⟨.hbm, 338, rfl⟩
abbrev main_call8_c : Ref sig .tc := ⟨.hbm, 339, rfl⟩
abbrev main_call8_v1 : Ref sig .tc := ⟨.hbm, 340, rfl⟩
abbrev main_call8_c_0 : Ref sig .tc := ⟨.hbm, 341, rfl⟩
abbrev main_call8_v2 : Ref sig .tc := ⟨.hbm, 342, rfl⟩
abbrev main_call8_v3 : Ref sig .tc := ⟨.hbm, 343, rfl⟩
abbrev main_call8_v4 : Ref sig .tc := ⟨.hbm, 344, rfl⟩
abbrev main_call8_c_1 : Ref sig .tc := ⟨.hbm, 345, rfl⟩
abbrev main_call8_v5 : Ref sig .tc := ⟨.hbm, 346, rfl⟩
abbrev main_call8_v6 : Ref sig .tc := ⟨.hbm, 347, rfl⟩
abbrev main_call8_c_2 : Ref sig .tc := ⟨.hbm, 348, rfl⟩
abbrev main_call8_v7 : Ref sig .tc := ⟨.hbm, 349, rfl⟩
abbrev main_call8_v8 : Ref sig .tc := ⟨.hbm, 350, rfl⟩
abbrev main_call8_c_3 : Ref sig .tc := ⟨.hbm, 351, rfl⟩
abbrev main_call8_v9 : Ref sig .tc := ⟨.hbm, 352, rfl⟩
abbrev main_call8_v10 : Ref sig .tc := ⟨.hbm, 353, rfl⟩
abbrev main_call8_v11 : Ref sig .tc := ⟨.hbm, 354, rfl⟩
abbrev main_call8_v12 : Ref sig .tc := ⟨.hbm, 355, rfl⟩
abbrev main_call8_v13 : Ref sig .tc := ⟨.hbm, 356, rfl⟩
abbrev main_call8_v14 : Ref sig .tc := ⟨.hbm, 357, rfl⟩
abbrev main_v126 : Ref sig .tc := ⟨.hbm, 358, rfl⟩
abbrev main_c_46 : Ref sig .tc := ⟨.hbm, 359, rfl⟩
abbrev main_v127 : Ref sig .tc := ⟨.hbm, 360, rfl⟩
abbrev main_v128 : Ref sig .tc := ⟨.hbm, 361, rfl⟩
abbrev main_c_47 : Ref sig .tc := ⟨.hbm, 362, rfl⟩
abbrev main_v129 : Ref sig .tc := ⟨.hbm, 363, rfl⟩
abbrev main_v130 : Ref sig .tc := ⟨.hbm, 364, rfl⟩
abbrev main_v131 : Ref sig .tc := ⟨.hbm, 365, rfl⟩
abbrev main_v132 : Ref sig .tc := ⟨.hbm, 366, rfl⟩
abbrev main_v133 : Ref sig .tc := ⟨.hbm, 367, rfl⟩
abbrev main_v134 : Ref sig .tc := ⟨.hbm, 368, rfl⟩
abbrev main_c_48 : Ref sig .tc := ⟨.hbm, 369, rfl⟩
abbrev main_v135 : Ref sig .tc := ⟨.hbm, 370, rfl⟩
abbrev main_v136 : Ref sig .tc := ⟨.hbm, 371, rfl⟩
abbrev main_c_49 : Ref sig .tc := ⟨.hbm, 372, rfl⟩
abbrev main_v137 : Ref sig .tc := ⟨.hbm, 373, rfl⟩
abbrev main_v138 : Ref sig .tc := ⟨.hbm, 374, rfl⟩
abbrev main_c_50 : Ref sig .tc := ⟨.hbm, 375, rfl⟩
abbrev main_call9_v0 : Ref sig .tc := ⟨.hbm, 376, rfl⟩
abbrev main_call9_c : Ref sig .tc := ⟨.hbm, 377, rfl⟩
abbrev main_call9_v1 : Ref sig .tc := ⟨.hbm, 378, rfl⟩
abbrev main_call9_c_0 : Ref sig .tc := ⟨.hbm, 379, rfl⟩
abbrev main_call9_v2 : Ref sig .tc := ⟨.hbm, 380, rfl⟩
abbrev main_call9_v3 : Ref sig .tc := ⟨.hbm, 381, rfl⟩
abbrev main_call9_v4 : Ref sig .tc := ⟨.hbm, 382, rfl⟩
abbrev main_call9_c_1 : Ref sig .tc := ⟨.hbm, 383, rfl⟩
abbrev main_call9_v5 : Ref sig .tc := ⟨.hbm, 384, rfl⟩
abbrev main_call9_v6 : Ref sig .tc := ⟨.hbm, 385, rfl⟩
abbrev main_call9_c_2 : Ref sig .tc := ⟨.hbm, 386, rfl⟩
abbrev main_call9_v7 : Ref sig .tc := ⟨.hbm, 387, rfl⟩
abbrev main_call9_v8 : Ref sig .tc := ⟨.hbm, 388, rfl⟩
abbrev main_call9_c_3 : Ref sig .tc := ⟨.hbm, 389, rfl⟩
abbrev main_call9_v9 : Ref sig .tc := ⟨.hbm, 390, rfl⟩
abbrev main_call9_v10 : Ref sig .tc := ⟨.hbm, 391, rfl⟩
abbrev main_call9_v11 : Ref sig .tc := ⟨.hbm, 392, rfl⟩
abbrev main_call9_v12 : Ref sig .tc := ⟨.hbm, 393, rfl⟩
abbrev main_call9_v13 : Ref sig .tc := ⟨.hbm, 394, rfl⟩
abbrev main_call9_v14 : Ref sig .tc := ⟨.hbm, 395, rfl⟩
abbrev main_v139 : Ref sig .tc := ⟨.hbm, 396, rfl⟩
abbrev main_c_51 : Ref sig .tc := ⟨.hbm, 397, rfl⟩
abbrev main_v140 : Ref sig .tc := ⟨.hbm, 398, rfl⟩
abbrev main_v141 : Ref sig .tc := ⟨.hbm, 399, rfl⟩
abbrev main_c_52 : Ref sig .tc := ⟨.hbm, 400, rfl⟩
abbrev main_v142 : Ref sig .tc := ⟨.hbm, 401, rfl⟩
abbrev main_v143 : Ref sig .tc := ⟨.hbm, 402, rfl⟩
abbrev main_v144 : Ref sig .tc := ⟨.hbm, 403, rfl⟩
abbrev main_v145 : Ref sig .tc := ⟨.hbm, 404, rfl⟩
abbrev main_v146 : Ref sig .tc := ⟨.hbm, 405, rfl⟩
abbrev main_v147 : Ref sig .tc := ⟨.hbm, 406, rfl⟩
abbrev main_c_53 : Ref sig .tc := ⟨.hbm, 407, rfl⟩
abbrev main_v148 : Ref sig .tc := ⟨.hbm, 408, rfl⟩
abbrev main_v149 : Ref sig .tc := ⟨.hbm, 409, rfl⟩
abbrev main_c_54 : Ref sig .tc := ⟨.hbm, 410, rfl⟩
abbrev main_v150 : Ref sig .tc := ⟨.hbm, 411, rfl⟩
abbrev main_v151 : Ref sig .tc := ⟨.hbm, 412, rfl⟩
abbrev main_c_55 : Ref sig .tc := ⟨.hbm, 413, rfl⟩
abbrev main_call10_v0 : Ref sig .tc := ⟨.hbm, 414, rfl⟩
abbrev main_call10_c : Ref sig .tc := ⟨.hbm, 415, rfl⟩
abbrev main_call10_v1 : Ref sig .tc := ⟨.hbm, 416, rfl⟩
abbrev main_call10_c_0 : Ref sig .tc := ⟨.hbm, 417, rfl⟩
abbrev main_call10_v2 : Ref sig .tc := ⟨.hbm, 418, rfl⟩
abbrev main_call10_v3 : Ref sig .tc := ⟨.hbm, 419, rfl⟩
abbrev main_call10_v4 : Ref sig .tc := ⟨.hbm, 420, rfl⟩
abbrev main_call10_c_1 : Ref sig .tc := ⟨.hbm, 421, rfl⟩
abbrev main_call10_v5 : Ref sig .tc := ⟨.hbm, 422, rfl⟩
abbrev main_call10_v6 : Ref sig .tc := ⟨.hbm, 423, rfl⟩
abbrev main_call10_c_2 : Ref sig .tc := ⟨.hbm, 424, rfl⟩
abbrev main_call10_v7 : Ref sig .tc := ⟨.hbm, 425, rfl⟩
abbrev main_call10_v8 : Ref sig .tc := ⟨.hbm, 426, rfl⟩
abbrev main_call10_c_3 : Ref sig .tc := ⟨.hbm, 427, rfl⟩
abbrev main_call10_v9 : Ref sig .tc := ⟨.hbm, 428, rfl⟩
abbrev main_call10_v10 : Ref sig .tc := ⟨.hbm, 429, rfl⟩
abbrev main_call10_v11 : Ref sig .tc := ⟨.hbm, 430, rfl⟩
abbrev main_call10_v12 : Ref sig .tc := ⟨.hbm, 431, rfl⟩
abbrev main_call10_v13 : Ref sig .tc := ⟨.hbm, 432, rfl⟩
abbrev main_call10_v14 : Ref sig .tc := ⟨.hbm, 433, rfl⟩
abbrev main_v152 : Ref sig .tc := ⟨.hbm, 434, rfl⟩
abbrev main_c_56 : Ref sig .tc := ⟨.hbm, 435, rfl⟩
abbrev main_v153 : Ref sig .tc := ⟨.hbm, 436, rfl⟩
abbrev main_v154 : Ref sig .tc := ⟨.hbm, 437, rfl⟩
abbrev main_c_57 : Ref sig .tc := ⟨.hbm, 438, rfl⟩
abbrev main_v155 : Ref sig .tc := ⟨.hbm, 439, rfl⟩
abbrev main_v156 : Ref sig .tc := ⟨.hbm, 440, rfl⟩
abbrev main_v157 : Ref sig .tc := ⟨.hbm, 441, rfl⟩
abbrev main_v158 : Ref sig .tc := ⟨.hbm, 442, rfl⟩
abbrev main_v159 : Ref sig .tc := ⟨.hbm, 443, rfl⟩
abbrev main_v160 : Ref sig .tc := ⟨.hbm, 444, rfl⟩
abbrev main_c_58 : Ref sig .tc := ⟨.hbm, 445, rfl⟩
abbrev main_v161 : Ref sig .tc := ⟨.hbm, 446, rfl⟩
abbrev main_v162 : Ref sig .tc := ⟨.hbm, 447, rfl⟩
abbrev main_c_59 : Ref sig .tc := ⟨.hbm, 448, rfl⟩
abbrev main_v163 : Ref sig .tc := ⟨.hbm, 449, rfl⟩
abbrev main_v164 : Ref sig .tc := ⟨.hbm, 450, rfl⟩
abbrev main_c_60 : Ref sig .tc := ⟨.hbm, 451, rfl⟩
abbrev main_call11_v0 : Ref sig .tc := ⟨.hbm, 452, rfl⟩
abbrev main_call11_c : Ref sig .tc := ⟨.hbm, 453, rfl⟩
abbrev main_call11_v1 : Ref sig .tc := ⟨.hbm, 454, rfl⟩
abbrev main_call11_c_0 : Ref sig .tc := ⟨.hbm, 455, rfl⟩
abbrev main_call11_v2 : Ref sig .tc := ⟨.hbm, 456, rfl⟩
abbrev main_call11_v3 : Ref sig .tc := ⟨.hbm, 457, rfl⟩
abbrev main_call11_v4 : Ref sig .tc := ⟨.hbm, 458, rfl⟩
abbrev main_call11_c_1 : Ref sig .tc := ⟨.hbm, 459, rfl⟩
abbrev main_call11_v5 : Ref sig .tc := ⟨.hbm, 460, rfl⟩
abbrev main_call11_v6 : Ref sig .tc := ⟨.hbm, 461, rfl⟩
abbrev main_call11_c_2 : Ref sig .tc := ⟨.hbm, 462, rfl⟩
abbrev main_call11_v7 : Ref sig .tc := ⟨.hbm, 463, rfl⟩
abbrev main_call11_v8 : Ref sig .tc := ⟨.hbm, 464, rfl⟩
abbrev main_call11_c_3 : Ref sig .tc := ⟨.hbm, 465, rfl⟩
abbrev main_call11_v9 : Ref sig .tc := ⟨.hbm, 466, rfl⟩
abbrev main_call11_v10 : Ref sig .tc := ⟨.hbm, 467, rfl⟩
abbrev main_call11_v11 : Ref sig .tc := ⟨.hbm, 468, rfl⟩
abbrev main_call11_v12 : Ref sig .tc := ⟨.hbm, 469, rfl⟩
abbrev main_call11_v13 : Ref sig .tc := ⟨.hbm, 470, rfl⟩
abbrev main_call11_v14 : Ref sig .tc := ⟨.hbm, 471, rfl⟩
abbrev main_v165 : Ref sig .tc := ⟨.hbm, 472, rfl⟩
abbrev main_c_61 : Ref sig .tc := ⟨.hbm, 473, rfl⟩
abbrev main_v166 : Ref sig .tc := ⟨.hbm, 474, rfl⟩
abbrev main_v167 : Ref sig .tc := ⟨.hbm, 475, rfl⟩
abbrev main_c_62 : Ref sig .tc := ⟨.hbm, 476, rfl⟩
abbrev main_v168 : Ref sig .tc := ⟨.hbm, 477, rfl⟩
abbrev main_v169 : Ref sig .tc := ⟨.hbm, 478, rfl⟩
abbrev main_v170 : Ref sig .tc := ⟨.hbm, 479, rfl⟩
abbrev main_v171 : Ref sig .tc := ⟨.hbm, 480, rfl⟩
abbrev main_v172 : Ref sig .tc := ⟨.hbm, 481, rfl⟩
abbrev main_v173 : Ref sig .tc := ⟨.hbm, 482, rfl⟩
abbrev main_c_63 : Ref sig .tc := ⟨.hbm, 483, rfl⟩
abbrev main_v174 : Ref sig .tc := ⟨.hbm, 484, rfl⟩
abbrev main_v175 : Ref sig .tc := ⟨.hbm, 485, rfl⟩
abbrev main_c_64 : Ref sig .tc := ⟨.hbm, 486, rfl⟩
abbrev main_v176 : Ref sig .tc := ⟨.hbm, 487, rfl⟩
abbrev main_v177 : Ref sig .tc := ⟨.hbm, 488, rfl⟩
abbrev main_c_65 : Ref sig .tc := ⟨.hbm, 489, rfl⟩
abbrev main_call12_v0 : Ref sig .tc := ⟨.hbm, 490, rfl⟩
abbrev main_call12_c : Ref sig .tc := ⟨.hbm, 491, rfl⟩
abbrev main_call12_v1 : Ref sig .tc := ⟨.hbm, 492, rfl⟩
abbrev main_call12_c_0 : Ref sig .tc := ⟨.hbm, 493, rfl⟩
abbrev main_call12_v2 : Ref sig .tc := ⟨.hbm, 494, rfl⟩
abbrev main_call12_v3 : Ref sig .tc := ⟨.hbm, 495, rfl⟩
abbrev main_call12_v4 : Ref sig .tc := ⟨.hbm, 496, rfl⟩
abbrev main_call12_c_1 : Ref sig .tc := ⟨.hbm, 497, rfl⟩
abbrev main_call12_v5 : Ref sig .tc := ⟨.hbm, 498, rfl⟩
abbrev main_call12_v6 : Ref sig .tc := ⟨.hbm, 499, rfl⟩
abbrev main_call12_c_2 : Ref sig .tc := ⟨.hbm, 500, rfl⟩
abbrev main_call12_v7 : Ref sig .tc := ⟨.hbm, 501, rfl⟩
abbrev main_call12_v8 : Ref sig .tc := ⟨.hbm, 502, rfl⟩
abbrev main_call12_c_3 : Ref sig .tc := ⟨.hbm, 503, rfl⟩
abbrev main_call12_v9 : Ref sig .tc := ⟨.hbm, 504, rfl⟩
abbrev main_call12_v10 : Ref sig .tc := ⟨.hbm, 505, rfl⟩
abbrev main_call12_v11 : Ref sig .tc := ⟨.hbm, 506, rfl⟩
abbrev main_call12_v12 : Ref sig .tc := ⟨.hbm, 507, rfl⟩
abbrev main_call12_v13 : Ref sig .tc := ⟨.hbm, 508, rfl⟩
abbrev main_call12_v14 : Ref sig .tc := ⟨.hbm, 509, rfl⟩
abbrev main_v178 : Ref sig .tc := ⟨.hbm, 510, rfl⟩
abbrev main_c_66 : Ref sig .tc := ⟨.hbm, 511, rfl⟩
abbrev main_v179 : Ref sig .tc := ⟨.hbm, 512, rfl⟩
abbrev main_v180 : Ref sig .tc := ⟨.hbm, 513, rfl⟩
abbrev main_c_67 : Ref sig .tc := ⟨.hbm, 514, rfl⟩
abbrev main_v181 : Ref sig .tc := ⟨.hbm, 515, rfl⟩
abbrev main_v182 : Ref sig .tc := ⟨.hbm, 516, rfl⟩
abbrev main_v183 : Ref sig .tc := ⟨.hbm, 517, rfl⟩
abbrev main_v184 : Ref sig .tc := ⟨.hbm, 518, rfl⟩
abbrev main_v185 : Ref sig .tc := ⟨.hbm, 519, rfl⟩
abbrev main_v186 : Ref sig .tc := ⟨.hbm, 520, rfl⟩
abbrev main_c_68 : Ref sig .tc := ⟨.hbm, 521, rfl⟩
abbrev main_v187 : Ref sig .tc := ⟨.hbm, 522, rfl⟩
abbrev main_v188 : Ref sig .tc := ⟨.hbm, 523, rfl⟩
abbrev main_c_69 : Ref sig .tc := ⟨.hbm, 524, rfl⟩
abbrev main_v189 : Ref sig .tc := ⟨.hbm, 525, rfl⟩
abbrev main_v190 : Ref sig .tc := ⟨.hbm, 526, rfl⟩
abbrev main_c_70 : Ref sig .tc := ⟨.hbm, 527, rfl⟩
abbrev main_call13_v0 : Ref sig .tc := ⟨.hbm, 528, rfl⟩
abbrev main_call13_c : Ref sig .tc := ⟨.hbm, 529, rfl⟩
abbrev main_call13_v1 : Ref sig .tc := ⟨.hbm, 530, rfl⟩
abbrev main_call13_c_0 : Ref sig .tc := ⟨.hbm, 531, rfl⟩
abbrev main_call13_v2 : Ref sig .tc := ⟨.hbm, 532, rfl⟩
abbrev main_call13_v3 : Ref sig .tc := ⟨.hbm, 533, rfl⟩
abbrev main_call13_v4 : Ref sig .tc := ⟨.hbm, 534, rfl⟩
abbrev main_call13_c_1 : Ref sig .tc := ⟨.hbm, 535, rfl⟩
abbrev main_call13_v5 : Ref sig .tc := ⟨.hbm, 536, rfl⟩
abbrev main_call13_v6 : Ref sig .tc := ⟨.hbm, 537, rfl⟩
abbrev main_call13_c_2 : Ref sig .tc := ⟨.hbm, 538, rfl⟩
abbrev main_call13_v7 : Ref sig .tc := ⟨.hbm, 539, rfl⟩
abbrev main_call13_v8 : Ref sig .tc := ⟨.hbm, 540, rfl⟩
abbrev main_call13_c_3 : Ref sig .tc := ⟨.hbm, 541, rfl⟩
abbrev main_call13_v9 : Ref sig .tc := ⟨.hbm, 542, rfl⟩
abbrev main_call13_v10 : Ref sig .tc := ⟨.hbm, 543, rfl⟩
abbrev main_call13_v11 : Ref sig .tc := ⟨.hbm, 544, rfl⟩
abbrev main_call13_v12 : Ref sig .tc := ⟨.hbm, 545, rfl⟩
abbrev main_call13_v13 : Ref sig .tc := ⟨.hbm, 546, rfl⟩
abbrev main_call13_v14 : Ref sig .tc := ⟨.hbm, 547, rfl⟩
abbrev main_v191 : Ref sig .tc := ⟨.hbm, 548, rfl⟩
abbrev main_c_71 : Ref sig .tc := ⟨.hbm, 549, rfl⟩
abbrev main_v192 : Ref sig .tc := ⟨.hbm, 550, rfl⟩
abbrev main_v193 : Ref sig .tc := ⟨.hbm, 551, rfl⟩
abbrev main_c_72 : Ref sig .tc := ⟨.hbm, 552, rfl⟩
abbrev main_v194 : Ref sig .tc := ⟨.hbm, 553, rfl⟩
abbrev main_v195 : Ref sig .tc := ⟨.hbm, 554, rfl⟩
abbrev main_v196 : Ref sig .tc := ⟨.hbm, 555, rfl⟩
abbrev main_v197 : Ref sig .tc := ⟨.hbm, 556, rfl⟩
abbrev main_v198 : Ref sig .tc := ⟨.hbm, 557, rfl⟩
abbrev main_v199 : Ref sig .tc := ⟨.hbm, 558, rfl⟩
abbrev main_c_73 : Ref sig .tc := ⟨.hbm, 559, rfl⟩
abbrev main_v200 : Ref sig .tc := ⟨.hbm, 560, rfl⟩
abbrev main_v201 : Ref sig .tc := ⟨.hbm, 561, rfl⟩
abbrev main_c_74 : Ref sig .tc := ⟨.hbm, 562, rfl⟩
abbrev main_v202 : Ref sig .tc := ⟨.hbm, 563, rfl⟩
abbrev main_v203 : Ref sig .tc := ⟨.hbm, 564, rfl⟩
abbrev main_c_75 : Ref sig .tc := ⟨.hbm, 565, rfl⟩
abbrev main_call14_v0 : Ref sig .tc := ⟨.hbm, 566, rfl⟩
abbrev main_call14_c : Ref sig .tc := ⟨.hbm, 567, rfl⟩
abbrev main_call14_v1 : Ref sig .tc := ⟨.hbm, 568, rfl⟩
abbrev main_call14_c_0 : Ref sig .tc := ⟨.hbm, 569, rfl⟩
abbrev main_call14_v2 : Ref sig .tc := ⟨.hbm, 570, rfl⟩
abbrev main_call14_v3 : Ref sig .tc := ⟨.hbm, 571, rfl⟩
abbrev main_call14_v4 : Ref sig .tc := ⟨.hbm, 572, rfl⟩
abbrev main_call14_c_1 : Ref sig .tc := ⟨.hbm, 573, rfl⟩
abbrev main_call14_v5 : Ref sig .tc := ⟨.hbm, 574, rfl⟩
abbrev main_call14_v6 : Ref sig .tc := ⟨.hbm, 575, rfl⟩
abbrev main_call14_c_2 : Ref sig .tc := ⟨.hbm, 576, rfl⟩
abbrev main_call14_v7 : Ref sig .tc := ⟨.hbm, 577, rfl⟩
abbrev main_call14_v8 : Ref sig .tc := ⟨.hbm, 578, rfl⟩
abbrev main_call14_c_3 : Ref sig .tc := ⟨.hbm, 579, rfl⟩
abbrev main_call14_v9 : Ref sig .tc := ⟨.hbm, 580, rfl⟩
abbrev main_call14_v10 : Ref sig .tc := ⟨.hbm, 581, rfl⟩
abbrev main_call14_v11 : Ref sig .tc := ⟨.hbm, 582, rfl⟩
abbrev main_call14_v12 : Ref sig .tc := ⟨.hbm, 583, rfl⟩
abbrev main_call14_v13 : Ref sig .tc := ⟨.hbm, 584, rfl⟩
abbrev main_call14_v14 : Ref sig .tc := ⟨.hbm, 585, rfl⟩
abbrev main_v204 : Ref sig .tc := ⟨.hbm, 586, rfl⟩
abbrev main_c_76 : Ref sig .tc := ⟨.hbm, 587, rfl⟩
abbrev main_v205 : Ref sig .tc := ⟨.hbm, 588, rfl⟩
abbrev main_v206 : Ref sig .tc := ⟨.hbm, 589, rfl⟩
abbrev main_c_77 : Ref sig .tc := ⟨.hbm, 590, rfl⟩
abbrev main_v207 : Ref sig .tc := ⟨.hbm, 591, rfl⟩
abbrev main_v208 : Ref sig .tc := ⟨.hbm, 592, rfl⟩
abbrev main_v209 : Ref sig .tc := ⟨.hbm, 593, rfl⟩
abbrev main_v210 : Ref sig .tc := ⟨.hbm, 594, rfl⟩
abbrev main_v211 : Ref sig .tc := ⟨.hbm, 595, rfl⟩
abbrev main_v212 : Ref sig .tc := ⟨.hbm, 596, rfl⟩
abbrev main_c_78 : Ref sig .tc := ⟨.hbm, 597, rfl⟩
abbrev main_v213 : Ref sig .tc := ⟨.hbm, 598, rfl⟩
abbrev main_v214 : Ref sig .tc := ⟨.hbm, 599, rfl⟩
abbrev main_c_79 : Ref sig .tc := ⟨.hbm, 600, rfl⟩
abbrev main_v215 : Ref sig .tc := ⟨.hbm, 601, rfl⟩
abbrev main_v216 : Ref sig .tc := ⟨.hbm, 602, rfl⟩
abbrev main_c_80 : Ref sig .tc := ⟨.hbm, 603, rfl⟩
abbrev main_call15_v0 : Ref sig .tc := ⟨.hbm, 604, rfl⟩
abbrev main_call15_c : Ref sig .tc := ⟨.hbm, 605, rfl⟩
abbrev main_call15_v1 : Ref sig .tc := ⟨.hbm, 606, rfl⟩
abbrev main_call15_c_0 : Ref sig .tc := ⟨.hbm, 607, rfl⟩
abbrev main_call15_v2 : Ref sig .tc := ⟨.hbm, 608, rfl⟩
abbrev main_call15_v3 : Ref sig .tc := ⟨.hbm, 609, rfl⟩
abbrev main_call15_v4 : Ref sig .tc := ⟨.hbm, 610, rfl⟩
abbrev main_call15_c_1 : Ref sig .tc := ⟨.hbm, 611, rfl⟩
abbrev main_call15_v5 : Ref sig .tc := ⟨.hbm, 612, rfl⟩
abbrev main_call15_v6 : Ref sig .tc := ⟨.hbm, 613, rfl⟩
abbrev main_call15_c_2 : Ref sig .tc := ⟨.hbm, 614, rfl⟩
abbrev main_call15_v7 : Ref sig .tc := ⟨.hbm, 615, rfl⟩
abbrev main_call15_v8 : Ref sig .tc := ⟨.hbm, 616, rfl⟩
abbrev main_call15_c_3 : Ref sig .tc := ⟨.hbm, 617, rfl⟩
abbrev main_call15_v9 : Ref sig .tc := ⟨.hbm, 618, rfl⟩
abbrev main_call15_v10 : Ref sig .tc := ⟨.hbm, 619, rfl⟩
abbrev main_call15_v11 : Ref sig .tc := ⟨.hbm, 620, rfl⟩
abbrev main_call15_v12 : Ref sig .tc := ⟨.hbm, 621, rfl⟩
abbrev main_call15_v13 : Ref sig .tc := ⟨.hbm, 622, rfl⟩
abbrev main_call15_v14 : Ref sig .tc := ⟨.hbm, 623, rfl⟩
abbrev main_v217 : Ref sig .tc := ⟨.hbm, 624, rfl⟩
abbrev main_c_81 : Ref sig .tc := ⟨.hbm, 625, rfl⟩
abbrev main_v218 : Ref sig .tc := ⟨.hbm, 626, rfl⟩
abbrev main_v219 : Ref sig .tc := ⟨.hbm, 627, rfl⟩
abbrev main_c_82 : Ref sig .tc := ⟨.hbm, 628, rfl⟩
abbrev main_v220 : Ref sig .tc := ⟨.hbm, 629, rfl⟩
abbrev main_v221 : Ref sig .tc := ⟨.hbm, 630, rfl⟩
abbrev main_v222 : Ref sig .tc := ⟨.hbm, 631, rfl⟩
abbrev main_v223 : Ref sig .tc := ⟨.hbm, 632, rfl⟩
abbrev main_v224 : Ref sig .tc := ⟨.hbm, 633, rfl⟩
abbrev main_v225 : Ref sig .tc := ⟨.hbm, 634, rfl⟩
abbrev main_c_83 : Ref sig .tc := ⟨.hbm, 635, rfl⟩
abbrev main_v226 : Ref sig .tc := ⟨.hbm, 636, rfl⟩
abbrev main_v227 : Ref sig .tc := ⟨.hbm, 637, rfl⟩
abbrev main_c_84 : Ref sig .tc := ⟨.hbm, 638, rfl⟩
abbrev main_v228 : Ref sig .tc := ⟨.hbm, 639, rfl⟩
abbrev main_v229 : Ref sig .tc := ⟨.hbm, 640, rfl⟩
abbrev main_v230 : Ref sig .tc := ⟨.hbm, 641, rfl⟩
abbrev main_v231 : Ref sig .tc := ⟨.hbm, 642, rfl⟩
abbrev main_v232 : Ref sig .tc := ⟨.hbm, 643, rfl⟩
abbrev main_v233 : Ref sig .tc := ⟨.hbm, 644, rfl⟩
abbrev main_v234 : Ref sig .tc := ⟨.hbm, 645, rfl⟩
abbrev main_v235 : Ref sig .tc := ⟨.hbm, 646, rfl⟩
abbrev main_v236 : Ref sig .tc := ⟨.hbm, 647, rfl⟩
abbrev main_v237 : Ref sig .tc := ⟨.hbm, 648, rfl⟩
abbrev main_v238 : Ref sig .tc := ⟨.hbm, 649, rfl⟩
abbrev main_v239 : Ref sig .tc := ⟨.hbm, 650, rfl⟩
abbrev main_v240 : Ref sig .tc := ⟨.hbm, 651, rfl⟩
abbrev main_v241 : Ref sig .tc := ⟨.hbm, 652, rfl⟩
abbrev main_v242 : Ref sig .tc := ⟨.hbm, 653, rfl⟩

abbrev nD : Nat := 1
abbrev τ : Topo := Topo.v7x

variable {F : FTy → Type} [FloatOps F]
-- ==== Proof.Dec.HostPure.lean ====
module

public import proofs.«01_k».proof.Proof.Gen.KernelIdeal
public import Idealize.ShloMosaic.Lib.Pointwise

@[expose] public section

noncomputable section

namespace Cert.Dec

open Idealize.ShloMosaic Idealize.ShloMosaic.TcCoe Cert.KernelIdeal Cert.KernelIdeal.Gen

/-! ## The host's preparations, element by element -/

/-- The words laid out for the first call. -/
def expand (t : IVec S65536x32 32) : IVec S512x4096 32 :=
  shapeCast S512x4096 (transpose S256x2x256x16 [1, 3, 0, 2] (shapeCast S256x256x16x2 t shapeCasts_S65536x32_S256x256x16x2)
    transposes_S256x256x16x2_S256x2x256x16_1_3_0_2) shapeCasts_S256x2x256x16_S512x4096

theorem expand_apply (t : IVec S65536x32 32) (r : Fin 512) (o : Fin 4096) :
    expand t (ix2 r o) = t (ix2 ⟨256 * (o.val / 16) + r.val / 2, by omega⟩ ⟨2 * (o.val % 16) + r.val % 2, by omega⟩) := by
  unfold expand
  rw [shapeCast_apply _ _ (ix2 r o) (ix4 (n0 := 256) (n1 := 2) (n2 := 256) (n3 := 16) ⟨r.val / 2, by omega⟩ ⟨r.val % 2, by omega⟩ ⟨o.val / 16, by omega⟩ ⟨o.val % 16, by omega⟩) (by
    rw [Shape.rowMajor_val_two, Shape.rowMajor_val_four]
    show ((r.val / 2 * 2 + r.val % 2) * 256 + o.val / 16) * 16 + o.val % 16 = r.val * 4096 + o.val
    omega)]
  rw [show transpose S256x2x256x16 [1, 3, 0, 2] (shapeCast S256x256x16x2 t shapeCasts_S65536x32_S256x256x16x2)
      transposes_S256x256x16x2_S256x2x256x16_1_3_0_2 (ix4 (n0 := 256) (n1 := 2) (n2 := 256) (n3 := 16) ⟨r.val / 2, by omega⟩ ⟨r.val % 2, by omega⟩ ⟨o.val / 16, by omega⟩ ⟨o.val % 16, by omega⟩)
    = shapeCast S256x256x16x2 t shapeCasts_S65536x32_S256x256x16x2 (ix4 (n0 := 256) (n1 := 256) (n2 := 16) (n3 := 2) ⟨o.val / 16, by omega⟩ ⟨r.val / 2, by omega⟩ ⟨o.val % 16, by omega⟩ ⟨r.val % 2, by omega⟩) from by pointwise]
  rw [shapeCast_apply _ _ _ (ix2 (n0 := 65536) (n1 := 32) ⟨256 * (o.val / 16) + r.val / 2, by omega⟩ ⟨2 * (o.val % 16) + r.val % 2, by omega⟩) (by
    rw [Shape.rowMajor_val_two, Shape.rowMajor_val_four]
    show (256 * (o.val / 16) + r.val / 2) * 32 + (2 * (o.val % 16) + r.val % 2) = ((o.val / 16 * 256 + r.val / 2) * 16 + o.val % 16) * 2 + r.val % 2
    omega)]

/-- The words turned by one. -/
def roll (t : IVec S65536x32 32) : IVec S65536x32 32 :=
  concatenate S65536x32 1 [⟨S65536x31, extractStridedSlice S65536x31 ![0, 1] t slices_S65536x32_S65536x31_0_1⟩,
    ⟨S65536x1, extractStridedSlice S65536x1 ![0, 0] t slices_S65536x32_S65536x1_0_0⟩] concatenates_S65536x31_S65536x1_S65536x32_d1

theorem roll_apply (t : IVec S65536x32 32) (b : Fin 65536) (w : Fin 32) :
    roll t (ix2 b w) = t (ix2 b ⟨(w.val + 1) % 32, by omega⟩) := by
  pointwise [roll]
  have hw := w.isLt
  split <;> refine congrArg t (congrArg (ix2 b) (Fin.ext ?_)) <;> simp only <;> omega

/-- The even (`s = 0`) or odd (`s = 1`) entries of the table, in rows. -/
def half (s : ℕ) (h : S65536.SlicesBy ![s] ![2] S32768) (t : FVec Ideal S65536x1 .f32) : FVec Ideal S256x8x128 .f32 :=
  broadcastInDim S256x8x128 ![0, 1, 2] bcast_S256x1x128_S256x8x128_0_1_2
    (shapeCast S256x1x128 (Host.slice S32768 ![s] ![2] (extf .f32 (truncf .bf16 (shapeCast S65536 t shapeCasts_S65536x1_S65536) bitsLt_bf16_f32) bitsLt_bf16_f32) h)
      shapeCasts_S32768_S256x1x128)

theorem half_apply (s : ℕ) (hs : s < 2) (h : S65536.SlicesBy ![s] ![2] S32768) (t : FVec Ideal S65536x1 .f32) (q : Fin 256) (r : Fin 8) (x : Fin 128) :
    half s h t (ix3 q r x) = t (ix2 ⟨2 * (128 * q.val + x.val) + s, by omega⟩ 0) := by
  pointwise [half]
  exact congrArg t (congrArg (fun a => ix2 a 0) (Fin.ext (by simp only; omega)))

theorem scales_apply (t : FVec Ideal S131072x1 .f32) (g : Fin 32) (o : Fin 4096) :
    transpose S32x4096 [1, 0] (shapeCast S4096x32 t shapeCasts_S131072x1_S4096x32) transposes_S4096x32_S32x4096_1_0 (ix2 g o)
      = t (ix2 ⟨32 * o.val + g.val, by omega⟩ 0) := by
  pointwise
  exact congrArg t (congrArg (fun a => ix2 a 0) (Fin.ext (by simp only; omega)))

theorem input_apply (x : FVec Ideal S4x2048x4096 .f32) (b : Fin 4) (s : Fin 2048) (i : Fin 4096) :
    truncf .bf16 (shapeCast S8192x4096 x shapeCasts_S4x2048x4096_S8192x4096) bitsLt_bf16_f32 (ix2 (n0 := 8192) ⟨2048 * b.val + s.val, by omega⟩ i)
      = x (ix3 b s i) := by
  pointwise

theorem output_apply (x : FVec Ideal S8192x4096 .f32) (b : Fin 4) (s : Fin 2048) (o : Fin 4096) :
    shapeCast S4x2048x4096 x shapeCasts_S8192x4096_S4x2048x4096 (ix3 b s o) = x (ix2 ⟨2048 * b.val + s.val, by omega⟩ o) := by
  pointwise
  exact congrArg x (congrArg (fun a => ix2 a o) (Fin.ext (by simp only; omega)))

end Cert.Dec

end
-- ==== Proof.Dec.Trip.lean ====
module

public import proofs.«01_k».proof.Proof.Gen.KernelIdeal.Loops

@[expose] public section

noncomputable section

namespace Cert.Dec

open Idealize.ShloMosaic Idealize.ShloMosaic.TcCoe Cert.KernelIdeal Cert.KernelIdeal.Gen

variable {F : FTy → Type} [FloatOps F]

/-! ## One trip of the decoding loop

A trip reads one row of each of the two word arrays, makes 8 × 256 windows of them, and looks every window up in the
two tables: for each of 256 chunks it takes the chunk's entries at the low seven bits of the index and keeps them
where the high eight bits are the chunk's number. -/

/-- The chunk's entries at the lanes `l`. -/
def look (t : FVec F S8x128 .f32) (l : IVec S8x128 32) : FVec F S8x128 .f32 :=
  dynamicGather 1 t (shapeCast S8x128 (shapeCast S8x128x1
    (select (cmpi .slt l (broadcast S8x128 0#32)) (addi l (broadcast S8x128 128#32)) l) shapeCasts_S8x128_S8x128x1)
    shapeCasts_S8x128x1_S8x128)

/-- The entries kept by the accumulator of the chunks `q, 4 + q, 8 + q, …`, after `n` of them. -/
def keep (tab : ℕ → FVec F S8x128 .f32) (l h : IVec S8x128 32) (q : ℕ) : ℕ → FVec F S8x128 .f32
  | 0 => broadcast S8x128 (Scalar.ofBits .f32 0x00000000#32)
  | n + 1 => select (cmpi .eq h (broadcast S8x128 (BitVec.ofNat 32 (4 * n + q)))) (look (tab (4 * n + q)) l)
      (keep tab l h q n)

/-- The four accumulators together. -/
def kept (tab : ℕ → FVec F S8x128 .f32) (l h : IVec S8x128 32) : FVec F S8x128 .f32 :=
  addf (addf (keep tab l h 0 64) (keep tab l h 1 64)) (addf (keep tab l h 2 64) (keep tab l h 3 64))

theorem chunk_inb (n : ℕ) : ∀ a, (![n % 256, 0, 0] : Fin 3 → ℕ) a + S1x8x128.size a ≤ S256x8x128.size a := by
  have := Nat.mod_lt n (show 256 > 0 by decide)
  intro a
  fin_cases a
  · show n % 256 + 1 ≤ 256
    omega
  · show 0 + 8 ≤ 8
    omega
  · show 0 + 128 ≤ 128
    omega

/-- Chunk `n` of a table. -/
def chunk (arg : Memref sig .tc .vmem S256x8x128 .f32) (X : BufTy.Contents (Elt F) arg.view.ty) (n : ℕ) :
    FVec F S8x128 .f32 :=
  shapeCast S8x128 (View.readAt (Elt F) arg.view
    (Rect.unit (s := S256x8x128) ![n % 256, 0, 0] S1x8x128.size (chunk_inb n)).toLoadRect X) shapeCasts_S1x8x128_S8x128

/-- The windows looked up: where a window is odd in the second table, else in the first. -/
def found (tlo thi : ℕ → FVec F S8x128 .f32) (a b : Vec F S1x256 .i32) : FVec F S8x256 .f32 :=
  let s := k0_pay1 (F := F) k0_pay2157 k0_pay2158 a b
  let l0 := k0_pay4 (F := F) k0_pay2157 k0_pay2158 a b
  let l1 := k0_pay5 (F := F) k0_pay2157 k0_pay2158 a b
  let h0 := k0_pay6 (F := F) k0_pay2157 k0_pay2158 a b
  let h1 := k0_pay7 (F := F) k0_pay2157 k0_pay2158 a b
  shapeCast S8x256 (select (cmpi .eq (andi s (broadcast S8x256 1#32)) (broadcast S8x256 1#32))
    (concatenate S8x256 1 [⟨S8x128, kept thi l0 h0⟩, ⟨S8x128, kept thi l1 h1⟩] concatenates_S8x128_S8x128_S8x256_d1)
    (concatenate S8x256 1 [⟨S8x128, kept tlo l0 h0⟩, ⟨S8x128, kept tlo l1 h1⟩] concatenates_S8x128_S8x128_S8x256_d1))
    shapeCasts_S8x256_S8x256

/-- What one trip writes. -/
theorem trip_eq (𝒱 : Variants) (c : Dev nD) (bd : Option 𝒱.V) (i : grid0.Coords) (arg2 : Memref sig .tc .vmem S512x256 .i32) (harg2 : arg2.IsWhole) (arg3 : Memref sig .tc .vmem S512x256 .i32) (harg3 : arg3.IsWhole) (arg4 : Memref sig .tc .vmem S256x8x128 .f32) (harg4 : arg4.IsWhole) (arg5 : Memref sig .tc .vmem S256x8x128 .f32) (harg5 : arg5.IsWhole) (arg6 : Memref sig .tc .vmem S32x256 .f32) (harg6 : arg6.IsWhole) (arg7 : Memref sig .tc .vmem S128x128 .f32) (harg7 : arg7.IsWhole) (arg8 : Memref sig .tc .vmem S4096x256 .bf16) (harg8 : arg8.IsWhole) (arg9 : Memref sig .tc .vmem S4096x256 .f32) (harg9 : arg9.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) :
    (trip_k0_t1 (F := F) 𝒱 c bd i arg2 harg2 arg3 harg3 arg4 harg4 arg5 harg5 arg6 harg6 arg7 harg7 arg8 harg8 arg9 harg9 X_arg2 X_arg3 X_arg4 X_arg5 k).1 = [⟨Rect.unit (s := S4096x256) (k0_off2 k) S8x256.size (k0_off2_inb k),
      found (chunk arg4 X_arg4) (chunk arg5 X_arg5)
        (View.readAt (Elt F) arg2.view (Rect.unit (s := S512x256) (k0_off1 k) S1x256.size (k0_off1_inb k)).toLoadRect X_arg2)
        (View.readAt (Elt F) arg3.view (Rect.unit (s := S512x256) (k0_off1 k) S1x256.size (k0_off1_inb k)).toLoadRect X_arg3)⟩] := by
  unfold trip_k0_t1
  rfl

end Cert.Dec

end
-- ==== Proof.Dec.Math.lean ====
module

public import Idealize.ShloMosaic.PureOps.Ideal
public import Idealize.ShloMosaic.Lib.ValueIdx

@[expose] public section

noncomputable section

namespace Cert.Dec

open Idealize.ShloMosaic

/-! ## A window of sixteen bits across two neighbouring words -/

/-- The sixteen bits that begin `2r` bits into the thirty-two bits `a ++ b`. -/
def win (a b r : ℕ) : ℕ := (a * 65536 + b) / 2 ^ (16 - 2 * r) % 65536

theorem win_lt (a b r : ℕ) : win a b r < 65536 := Nat.mod_lt _ (by decide)

/-- Digits `d 0, d 1, …` read as a binary number, the first the most significant. -/
def hor (d : ℕ → ℕ) : ℕ → ℕ
  | 0 => 0
  | n + 1 => hor d n * 2 + d n

/-- The bits of `N` from position `k` downwards, put together. -/
theorem hor_eq (N k : ℕ) (d : ℕ → ℕ) : ∀ n, n ≤ k + 1 → (∀ j, j < n → d j = N / 2 ^ (k - j) % 2) →
    hor d n = N / 2 ^ (k + 1 - n) % 2 ^ n
  | 0, _, _ => by simp [hor, Nat.mod_one]
  | n + 1, hn, hd => by
    have ih := hor_eq N k d n (by omega) (fun j hj => hd j (by omega))
    have e1 : k + 1 - n = (k - n) + 1 := by omega
    have e2 : k + 1 - (n + 1) = k - n := by omega
    rw [hor, ih, hd n (by omega), e1, e2, pow_succ, ← Nat.div_div_eq_div_mul, pow_succ, mul_comm (2 ^ n) 2, Nat.mod_mul]
    omega

/-- The reference's bit `j` of the state at `2r` bits into word `w`, from the words `t` of a ring of 32: it is
    the bit `31 − 2r − j` of word `w` followed by word `w + 1`. -/
theorem ring_bit (t : ℕ → ℕ) (ht : ∀ w, t w < 65536) {w r j : ℕ} (hw : w < 32) (hr : r < 8) (hj : j < 16) :
    t ((16 * w + 2 * r + j) % 512 / 16) / 2 ^ (15 - (16 * w + 2 * r + j) % 512 % 16) % 2
      = (t w * 65536 + t ((w + 1) % 32)) / 2 ^ (31 - 2 * r - j) % 2 := by
  by_cases h : 2 * r + j < 16
  · have e1 : (16 * w + 2 * r + j) % 512 / 16 = w := by omega
    have e2 : (16 * w + 2 * r + j) % 512 % 16 = 2 * r + j := by omega
    have e3 : 31 - 2 * r - j = 16 + (15 - (2 * r + j)) := by omega
    have e4 : (t w * 65536 + t ((w + 1) % 32)) / 2 ^ 16 = t w := by
      have := ht ((w + 1) % 32)
      omega
    rw [e1, e2, e3, pow_add, ← Nat.div_div_eq_div_mul, e4]
  · have e1 : (16 * w + 2 * r + j) % 512 / 16 = (w + 1) % 32 := by omega
    have e2 : (16 * w + 2 * r + j) % 512 % 16 = 2 * r + j - 16 := by omega
    obtain ⟨e, he, he'⟩ : ∃ e, 31 - 2 * r - j = e ∧ e ≤ 15 := ⟨_, rfl, by omega⟩
    have e3 : 15 - (2 * r + j - 16) = e := by omega
    have e4 : (65536 : ℕ) = 2 * (2 ^ (15 - e)) * 2 ^ e := by
      rw [mul_assoc, ← pow_add, show 15 - e + e = 15 by omega]
      norm_num
    rw [e1, e2, e3, he, e4, ← mul_assoc, ← mul_assoc, mul_comm _ (2 ^ e), Nat.mul_add_div (by positivity), mul_comm (t w) 2,
      mul_assoc, Nat.mul_add_mod]

/-- The state the reference builds bit by bit is the window of the two words. -/
theorem hor_ring (t : ℕ → ℕ) (ht : ∀ w, t w < 65536) {w r : ℕ} (hw : w < 32) (hr : r < 8) :
    hor (fun j => t ((16 * w + 2 * r + j) % 512 / 16) / 2 ^ (15 - (16 * w + 2 * r + j) % 512 % 16) % 2) 16
      = win (t w) (t ((w + 1) % 32)) r := by
  rw [hor_eq (t w * 65536 + t ((w + 1) % 32)) (31 - 2 * r) _ 16 (by omega)
    (fun j hj => by rw [ring_bit t ht hw hr hj]), win]
  rw [show 31 - 2 * r + 1 - 16 = 16 - 2 * r by omega]
  norm_num

/-! ## The equation -/

/-- The rotation moved from the matrix to the left operand: for finite factors the two ways to sum agree. -/
theorem sum_swap (x : Fin 4096 → ℝ) (h : Fin 128 → Fin 128 → ℝ) (v : Fin 4096 → ℝ) (s : Fin 32 → ℝ)
    (at' : Fin 32 → Fin 128 → Fin 4096) (hat : ∀ g j, (at' g j).val = 128 * g.val + j.val)
    (e : Fin 32 × Fin 128 ≃ Fin 4096) (he : ∀ p, e p = at' p.1 p.2) (q : Fin 4096 → Fin 32) (m : Fin 4096 → Fin 128)
    (hq : ∀ g j, q (at' g j) = g) (hm : ∀ g j, m (at' g j) = j) :
    ∑ i, x i * ((∑ k, h (m i) k * v (at' (q i) k)) * s (q i))
      = ∑ i, (∑ j, x (at' (q i) j) * h j (m i)) * (v i * s (q i)) := by
  rw [← e.sum_comp, ← e.sum_comp (fun i => (∑ j, x (at' (q i) j) * h j (m i)) * (v i * s (q i))),
    Fintype.sum_prod_type, Fintype.sum_prod_type]
  refine Finset.sum_congr rfl fun g _ => ?_
  simp only [he, hq, hm, Finset.sum_mul, Finset.mul_sum]
  rw [Finset.sum_comm]
  refine Finset.sum_congr rfl fun k _ => Finset.sum_congr rfl fun j _ => ?_
  ring

end Cert.Dec

end
-- ==== Proof.Dec.Words.lean ====
module

public import Idealize.ShloMosaic.PureOps
public import proofs.«01_k».proof.Proof.Dec.Math

@[expose] public section

noncomputable section

namespace Cert.Dec

open Idealize.ShloMosaic

/-! ## The words of the two programs, read as numbers -/

/-- A right shift of a word that is not negative divides. -/
theorem shrsi_toNat (u : ArithUnit) (x y : BitVec 32) (hx : x.toNat < 2 ^ 31) (hy : y.toNat < 32) :
    (IntOp.shrsi u x y).toNat = x.toNat / 2 ^ y.toNat := by
  have hm : x.msb = false := by
    rw [BitVec.msb_eq_decide]
    simp only [decide_eq_false_iff_not, not_le]
    exact hx
  simp only [IntOp.shrsi, hy, if_true, BitVec.sshiftRight_eq', BitVec.toNat_sshiftRight_of_msb_false hm,
    Nat.shiftRight_eq_div_pow]

/-- A left shift that loses nothing multiplies. -/
theorem shli_toNat (u : ArithUnit) (x y : BitVec 32) (hy : y.toNat < 32) (hx : x.toNat * 2 ^ y.toNat < 2 ^ 32) :
    (IntOp.shli u x y).toNat = x.toNat * 2 ^ y.toNat := by
  simp only [IntOp.shli, hy, if_true, BitVec.shiftLeft_eq', BitVec.toNat_shiftLeft, Nat.shiftLeft_eq,
    Nat.mod_eq_of_lt hx]

/-- The kernel's sixteen bits of two words are the window. -/
theorem window_toNat (a b sl sr : BitVec 32) (r : ℕ) (hr : r < 8) (ha : a.toNat < 65536) (hb : b.toNat < 65536)
    (hsl : sl.toNat = 2 * r) (hsr : sr.toNat = 16 - 2 * r) :
    (IntOp.andi (IntOp.ori (IntOp.shli .vector a sl) (IntOp.shrsi .vector b sr)) 65535#32).toNat
      = win a.toNat b.toNat r := by
  have hp : (2 : ℕ) ^ (2 * r) ≤ 2 ^ 14 := Nat.pow_le_pow_right (by decide) (by omega)
  have e1 : (IntOp.shli .vector a sl).toNat = a.toNat * 2 ^ (2 * r) := by
    rw [shli_toNat _ _ _ (by omega) (by
      rw [hsl]
      exact lt_of_le_of_lt (Nat.mul_le_mul (Nat.le_of_lt ha) hp) (by norm_num)), hsl]
  have e2 : (IntOp.shrsi .vector b sr).toNat = b.toNat / 2 ^ (16 - 2 * r) := by
    rw [shrsi_toNat _ _ _ (by omega) (by omega), hsr]
  have e3 : (65536 : ℕ) = 2 ^ (2 * r) * 2 ^ (16 - 2 * r) := by
    rw [← pow_add, show 2 * r + (16 - 2 * r) = 16 by omega]
    norm_num
  have e4 : b.toNat / 2 ^ (16 - 2 * r) < 2 ^ (2 * r) := by
    rw [Nat.div_lt_iff_lt_mul (by positivity), ← e3]
    exact hb
  show (((IntOp.shli .vector a sl).toNat ||| (IntOp.shrsi .vector b sr).toNat) &&& 65535) = _
  rw [e1, e2, show (65535 : ℕ) = 2 ^ 16 - 1 by norm_num, Nat.and_two_pow_sub_one_eq_mod, ← Nat.shiftLeft_eq,
    ← Nat.shiftLeft_add_eq_or_of_lt e4, Nat.shiftLeft_eq, win]
  congr 1
  conv_rhs => rw [e3, ← mul_assoc, Nat.add_comm, Nat.add_mul_div_right _ _ (by positivity)]
  rw [Nat.add_comm]

/-- A word's comparison with a number, chosen on. -/
theorem select_eq_ofNat {α : Type} (h : BitVec 32) (n : ℕ) (hn : n < 2 ^ 32) (a b : α) :
    Scalar.select (IntOp.cmpi .eq h (BitVec.ofNat 32 n)) a b = if h.toNat = n then a else b := by
  have : (h == BitVec.ofNat 32 n) = decide (h.toNat = n) := by
    rw [Bool.eq_iff_iff, beq_iff_eq, decide_eq_true_iff, ← BitVec.toNat_inj, BitVec.toNat_ofNat, Nat.mod_eq_of_lt hn]
  simp only [IntOp.cmpi, this, Scalar.select]
  by_cases hc : h.toNat = n <;> simp [hc]

/-- A word that is not negative is chosen unshifted. -/
theorem select_wrap (l m : BitVec 32) (hl : l.toNat < 2 ^ 31) :
    Scalar.select (IntOp.cmpi .slt l 0#32) m l = l := by
  have : l.slt 0#32 = false := by
    rw [BitVec.slt_zero_eq_msb, BitVec.msb_eq_decide]
    simp only [decide_eq_false_iff_not, not_le]
    exact hl
  simp only [IntOp.cmpi, this, Scalar.select]
  rfl

end Cert.Dec

end
-- ==== Proof.Dec.Found.lean ====
module

public import proofs.«01_k».proof.Proof.Dec.Trip
public import proofs.«01_k».proof.Proof.Dec.Words
public import Idealize.ShloMosaic.Lib.Pointwise

@[expose] public section

noncomputable section

namespace Cert.Dec

open Idealize.ShloMosaic Idealize.ShloMosaic.TcCoe Cert.KernelIdeal Cert.KernelIdeal.Gen

/-! ## What a trip writes, element by element -/

/-- The entry at the lane the word names. -/
theorem look_apply (t : FVec Ideal S8x128 .f32) (l : IVec S8x128 32) (r : Fin 8) (x : Fin 128)
    (hl : (l (ix2 r x)).toNat < 128) : look t l (ix2 r x) = t (ix2 r ⟨(l (ix2 r x)).toNat, hl⟩) := by
  have hc : shapeCast S8x128 (shapeCast S8x128x1
      (select (cmpi .slt l (broadcast S8x128 0#32)) (addi l (broadcast S8x128 128#32)) l) shapeCasts_S8x128_S8x128x1)
      shapeCasts_S8x128x1_S8x128 (ix2 r x) = l (ix2 r x) := by
    rw [shapeCast_shapeCast]
    exact select_wrap _ _ (by omega)
  unfold look
  show t _ = t _
  refine congrArg t (funext fun b => ?_)
  match b with
  | ⟨0, _⟩ => rfl
  | ⟨1, _⟩ =>
    refine Fin.ext ?_
    exact (congrArg (fun z : BitVec 32 => z.toNat % 128) hc).trans (Nat.mod_eq_of_lt hl)

/-- After `n` chunks an accumulator holds the entry of the word's chunk if that is among them, else zero. -/
theorem keep_apply (tab : ℕ → FVec Ideal S8x128 .f32) (l h : IVec S8x128 32) (q : ℕ) (hq : q < 4) (r : Fin 8)
    (x : Fin 128) (hl : (l (ix2 r x)).toNat < 128) : ∀ n, n ≤ 64 → keep tab l h q n (ix2 r x)
      = if (h (ix2 r x)).toNat % 4 = q ∧ (h (ix2 r x)).toNat / 4 < n
        then tab (h (ix2 r x)).toNat (ix2 r ⟨(l (ix2 r x)).toNat, hl⟩) else 0
  | 0, _ => by
    simp only [Nat.not_lt_zero, and_false, if_false]
    exact Ideal.ofBits_zero_f32
  | n + 1, hn => by
    show Scalar.select (IntOp.cmpi .eq (h (ix2 r x)) (BitVec.ofNat 32 (4 * n + q))) (look (tab (4 * n + q)) l (ix2 r x))
      (keep tab l h q n (ix2 r x)) = _
    rw [select_eq_ofNat _ _ (by omega), keep_apply tab l h q hq r x hl n (by omega), look_apply _ _ _ _ hl]
    by_cases e : (h (ix2 r x)).toNat = 4 * n + q
    · rw [if_pos e, if_pos (by omega), e]
    · rw [if_neg e]
      refine if_congr ⟨fun c => by omega, fun c => by omega⟩ rfl rfl

/-- The four accumulators add up to the entry of the word's chunk. -/
theorem kept_apply (tab : ℕ → FVec Ideal S8x128 .f32) (l h : IVec S8x128 32) (r : Fin 8) (x : Fin 128)
    (hl : (l (ix2 r x)).toNat < 128) (hh : (h (ix2 r x)).toNat < 256) :
    kept tab l h (ix2 r x) = tab (h (ix2 r x)).toNat (ix2 r ⟨(l (ix2 r x)).toNat, hl⟩) := by
  show (keep tab l h 0 64 (ix2 r x) + keep tab l h 1 64 (ix2 r x))
    + (keep tab l h 2 64 (ix2 r x) + keep tab l h 3 64 (ix2 r x)) = _
  rw [keep_apply tab l h 0 (by decide) r x hl 64 le_rfl, keep_apply tab l h 1 (by decide) r x hl 64 le_rfl,
    keep_apply tab l h 2 (by decide) r x hl 64 le_rfl, keep_apply tab l h 3 (by decide) r x hl 64 le_rfl]
  have h64 : (h (ix2 r x)).toNat / 4 < 64 := by omega
  have h4 : (h (ix2 r x)).toNat % 4 < 4 := Nat.mod_lt _ (by decide)
  obtain ⟨m, hm⟩ : ∃ m, m = (h (ix2 r x)).toNat % 4 := ⟨_, rfl⟩
  rw [← hm] at h4 ⊢
  interval_cases m <;> simp [h64]

/-- The window at row `r` of lane `l`. -/
theorem word_apply (a b : Vec Ideal S1x256 .i32) (r : Fin 8) (l : Fin 256) (ha : (a (ix2 0 l)).toNat < 65536)
    (hb : (b (ix2 0 l)).toNat < 65536) :
    (k0_pay1 (F := Ideal) k0_pay2157 k0_pay2158 a b (ix2 r l)).toNat = win (a (ix2 0 l)).toNat (b (ix2 0 l)).toNat r := by
  have e : k0_pay1 (F := Ideal) k0_pay2157 k0_pay2158 a b (ix2 r l)
      = IntOp.andi (IntOp.ori (IntOp.shli .vector (a (ix2 0 l)) (k0_pay2157 (ix2 r l)))
          (IntOp.shrsi .vector (b (ix2 0 l)) (k0_pay2158 (ix2 r l)))) 65535#32 := by
    pointwise [k0_pay1]
  have e1 : (k0_pay2157 (ix2 r l)).toNat = 2 * r.val := by
    show (2#32 * (BitVec.ofNat 32 (0 * 8 + r.val) &&& 7#32)).toNat = _
    fin_cases r <;> rfl
  have e2 : (k0_pay2158 (ix2 r l)).toNat = 16 - 2 * r.val := by
    show (16#32 - 2#32 * (BitVec.ofNat 32 (0 * 8 + r.val) &&& 7#32)).toNat = _
    fin_cases r <;> rfl
  rw [e, window_toNat _ _ _ _ r.val r.isLt ha hb e1 e2]

/-- An entry of the table from the parts of its index. -/
theorem found_half (tab : ℕ → FVec Ideal S8x128 .f32) (T : ℕ → EReal) (u : ℕ)
    (ht : ∀ c, c < 256 → ∀ r x, tab c (ix2 r x) = T (2 * (128 * c + x.val) + u)) (l h : IVec S8x128 32) (r : Fin 8)
    (x : Fin 128) (w : BitVec 32) (hw : w.toNat < 65536)
    (hl : l (ix2 r x) = IntOp.andi (IntOp.shrsi .vector w 1#32) 127#32)
    (hh : h (ix2 r x) = IntOp.shrsi .vector w 8#32) :
    kept tab l h (ix2 r x) = T (2 * (w.toNat / 2) + u) := by
  have el : (l (ix2 r x)).toNat = w.toNat / 2 % 128 := by
    rw [hl]
    show (IntOp.shrsi .vector w 1#32).toNat &&& 127 = _
    rw [shrsi_toNat _ _ _ (by omega) (by decide), show (127 : ℕ) = 2 ^ 7 - 1 by norm_num, Nat.and_two_pow_sub_one_eq_mod]
    rfl
  have eh : (h (ix2 r x)).toNat = w.toNat / 256 := by
    rw [hh, shrsi_toNat _ _ _ (by omega) (by decide)]
    rfl
  rw [kept_apply tab l h r x (by omega) (by omega), ht _ (by omega)]
  congr 2
  simp only [el, eh]
  omega

/-- Two halves side by side, at a lane. -/
theorem halves_apply (u v : FVec Ideal S8x128 .f32) (r : Fin 8) (l : Fin 256) :
    concatenate S8x256 1 [⟨S8x128, u⟩, ⟨S8x128, v⟩] concatenates_S8x128_S8x128_S8x256_d1 (ix2 r l)
      = if h : l.val < 128 then u (ix2 r ⟨l.val, h⟩) else v (ix2 r ⟨l.val - 128, by omega⟩) := by
  pointwise

/-- One table's entries for both halves of the lanes, at a lane. -/
theorem found_table (tab : ℕ → FVec Ideal S8x128 .f32) (T : ℕ → EReal) (u : ℕ)
    (ht : ∀ c, c < 256 → ∀ r x, tab c (ix2 r x) = T (2 * (128 * c + x.val) + u)) (a b : Vec Ideal S1x256 .i32)
    (r : Fin 8) (l : Fin 256) (hw : (k0_pay1 (F := Ideal) k0_pay2157 k0_pay2158 a b (ix2 r l)).toNat < 65536) :
    concatenate S8x256 1
      [⟨S8x128, kept tab (k0_pay4 (F := Ideal) k0_pay2157 k0_pay2158 a b) (k0_pay6 (F := Ideal) k0_pay2157 k0_pay2158 a b)⟩,
        ⟨S8x128, kept tab (k0_pay5 (F := Ideal) k0_pay2157 k0_pay2158 a b) (k0_pay7 (F := Ideal) k0_pay2157 k0_pay2158 a b)⟩]
      concatenates_S8x128_S8x128_S8x256_d1 (ix2 r l)
      = T (2 * ((k0_pay1 (F := Ideal) k0_pay2157 k0_pay2158 a b (ix2 r l)).toNat / 2) + u) := by
  rw [halves_apply]
  by_cases h : l.val < 128
  · rw [dif_pos h]
    refine found_half tab T u ht _ _ r ⟨l.val, h⟩ _ hw ?_ ?_
    · pointwise [k0_pay4, k0_pay2]
    · pointwise [k0_pay6, k0_pay3]
  · rw [dif_neg h]
    have e : (⟨128 + (l.val - 128), by omega⟩ : Fin 256) = l := Fin.ext (by simp only; omega)
    refine found_half tab T u ht _ _ r ⟨l.val - 128, by omega⟩ _ hw ?_ ?_
    · pointwise [k0_pay5, k0_pay2, e]
    · pointwise [k0_pay7, k0_pay3, e]

/-- WHAT A TRIP WRITES at row `r`, lane `l`: the table's entry at the window of the two words of that lane. -/
theorem found_apply (tlo thi : ℕ → FVec Ideal S8x128 .f32) (T : ℕ → EReal)
    (hlo : ∀ c, c < 256 → ∀ r x, tlo c (ix2 r x) = T (2 * (128 * c + x.val) + 0))
    (hhi : ∀ c, c < 256 → ∀ r x, thi c (ix2 r x) = T (2 * (128 * c + x.val) + 1))
    (a b : Vec Ideal S1x256 .i32) (r : Fin 8) (l : Fin 256) (ha : (a (ix2 0 l)).toNat < 65536)
    (hb : (b (ix2 0 l)).toNat < 65536) :
    found tlo thi a b (ix2 r l) = T (win (a (ix2 0 l)).toNat (b (ix2 0 l)).toNat r) := by
  have hw := word_apply a b r l ha hb
  have hlt := win_lt (a (ix2 0 l)).toNat (b (ix2 0 l)).toNat r
  rw [← hw] at hlt ⊢
  obtain ⟨W, hW⟩ : ∃ W, W = k0_pay1 (F := Ideal) k0_pay2157 k0_pay2158 a b (ix2 r l) := ⟨_, rfl⟩
  unfold found
  rw [shapeCast_self]
  show Scalar.select (IntOp.cmpi .eq (IntOp.andi (k0_pay1 (F := Ideal) k0_pay2157 k0_pay2158 a b (ix2 r l)) 1#32)
    (BitVec.ofNat 32 1)) _ _ = _
  rw [select_eq_ofNat _ _ (by decide), found_table tlo T 0 hlo a b r l hlt, found_table thi T 1 hhi a b r l hlt]
  have e1 : (IntOp.andi (k0_pay1 (F := Ideal) k0_pay2157 k0_pay2158 a b (ix2 r l)) 1#32).toNat
      = (k0_pay1 (F := Ideal) k0_pay2157 k0_pay2158 a b (ix2 r l)).toNat % 2 := by
    show _ &&& 1 = _
    exact Nat.and_one_is_mod _
  rw [e1]
  split
  · congr 1
    omega
  · congr 1
    omega

end Cert.Dec

end
-- ==== Proof.Dec.Block.lean ====
module

public import proofs.«01_k».proof.Proof.Gen.KernelIdeal.Frame
public import proofs.«01_k».proof.Proof.Dec.Found

@[expose] public section

noncomputable section

namespace Cert.Dec

open Idealize.ShloMosaic Idealize.ShloMosaic.TcCoe Cert.KernelIdeal Cert.KernelIdeal.Gen

/-! ## What one grid point of the first call leaves in its block

After the loop the scratch holds the decoded weights; every group of 128 of its rows is multiplied by the transform
and by the group's row of scales, and stored in the block. -/

section Model

variable {F : FTy → Type} [FloatOps F]

theorem rows_inb (n : ℕ) : ∀ a, (![128 * (n % 32), 0] : Fin 2 → ℕ) a + S128x256.size a ≤ S4096x256.size a := by
  have := Nat.mod_lt n (show 32 > 0 by decide)
  intro a
  fin_cases a
  · show 128 * (n % 32) + 128 ≤ 4096
    omega
  · show 0 + 256 ≤ 256
    omega

theorem scale_inb (n : ℕ) : ∀ a, (![n % 32, 0] : Fin 2 → ℕ) a + S1x256.size a ≤ S32x256.size a := by
  have := Nat.mod_lt n (show 32 > 0 by decide)
  intro a
  fin_cases a
  · show n % 32 + 1 ≤ 32
    omega
  · show 0 + 256 ≤ 256
    omega

/-- The rows of group `n`. -/
abbrev rows (n : ℕ) : Rect S4096x256 := Rect.unit (s := S4096x256) ![128 * (n % 32), 0] S128x256.size (rows_inb n)

/-- The row of scales of group `n`. -/
abbrev scale (n : ℕ) : Rect S32x256 := Rect.unit (s := S32x256) ![n % 32, 0] S1x256.size (scale_inb n)

/-- The stores of the first `n` groups, the last first: `V` what a box of the scratch reads, `sc` what a box of the
scales reads. -/
def stores (H : Vec F S128x128 .f32) (V : (n : ℕ) → Vec F S128x256 .f32) (sc : (n : ℕ) → Vec F S1x256 .f32) :
    ℕ → List (View.Piece (Elt F) S4096x256 .bf16)
  | 0 => []
  | n + 1 => ⟨rows n, k0_pay2160 H (V n) (sc n)⟩ :: stores H V sc n

theorem run_eq (c : Dev nD) (i : grid0.Coords) (arg2 : Memref sig .tc .vmem S512x256 .i32) (harg2 : arg2.IsWhole) (arg3 : Memref sig .tc .vmem S512x256 .i32) (harg3 : arg3.IsWhole) (arg4 : Memref sig .tc .vmem S256x8x128 .f32) (harg4 : arg4.IsWhole) (arg5 : Memref sig .tc .vmem S256x8x128 .f32) (harg5 : arg5.IsWhole) (arg6 : Memref sig .tc .vmem S32x256 .f32) (harg6 : arg6.IsWhole) (arg7 : Memref sig .tc .vmem S128x128 .f32) (harg7 : arg7.IsWhole) (arg8 : Memref sig .tc .vmem S4096x256 .bf16) (harg8 : arg8.IsWhole) (arg9 : Memref sig .tc .vmem S4096x256 .f32) (harg9 : arg9.IsWhole)
    (x0 : Vec F S512x256 .i32) (x1 : Vec F S512x256 .i32) (x2 : Vec F S256x8x128 .f32) (x3 : Vec F S256x8x128 .f32) (x4 : Vec F S32x256 .f32) (x5 : Vec F S128x128 .f32) :
    (kernelRun0_A (F := F) c i arg2 harg2 arg3 harg3 arg4 harg4 arg5 harg5 arg6 harg6 arg7 harg7 arg8 harg8 arg9 harg9 x0 x1 x2 x3 x4 x5).1
      = stores (View.readAt (Elt F) arg7.view (Rect.unit (s := S128x128) ![0, 0] S128x128.size inb_S128x128_S128x128_0_0).toLoadRect (harg7.unread x5))
          (fun n => arg9.view.readCov (pb_k0_t1 (F := F) Variants.none c none i arg2 harg2 arg3 harg3 arg4 harg4 arg5 harg5 arg6 harg6 arg7 harg7 arg8 harg8 arg9 harg9 (harg2.unread x0) (harg3.unread x1) (harg4.unread x2) (harg5.unread x3) (Scf.trips k0_t1_loop.lb k0_t1_loop.ub k0_t1_loop.st)) (rows n).toLoadRect)
          (fun n => View.readAt (Elt F) arg6.view (scale n).toLoadRect (harg6.unread x4)) 32 := by
  unfold kernelRun0_A
  rfl

end Model

theorem chunk_apply (arg : Memref sig .tc .vmem S256x8x128 .f32) (harg : arg.IsWhole) (X : Vec Ideal S256x8x128 .f32)
    (n : ℕ) (hn : n < 256) (r : Fin 8) (x : Fin 128) :
    chunk arg (harg.unread X) n (ix2 r x) = X (ix3 ⟨n, hn⟩ r x) := by
  unfold chunk
  rw [View.readAt_eq_ld, harg.read_unread]
  have hc : ∀ Y : Vec Ideal S1x8x128 .f32, shapeCast S8x128 Y shapeCasts_S1x8x128_S8x128 (ix2 r x) = Y (ix3 0 r x) := by
    intro Y
    pointwise
  rw [hc]
  show X _ = X _
  refine congrArg X (funext fun a => Fin.ext ?_)
  match a with
  | ⟨0, _⟩ =>
    show n % 256 + 1 * 0 = n
    omega
  | ⟨1, _⟩ =>
    show 0 + 1 * r.val = r.val
    omega
  | ⟨2, _⟩ =>
    show 0 + 1 * x.val = x.val
    omega

/-- The decoded weight at row `y 0` and lane `y 1`. -/
def weight (T : ℕ → EReal) (x0 x1 : Vec Ideal S512x256 .i32) (y : S4096x256.Idx) : EReal :=
  have h : (y 0).val / 8 < 512 := Nat.div_lt_of_lt_mul (y 0).isLt
  T (win (x0 (ix2 ⟨(y 0).val / 8, h⟩ (y 1))).toNat (x1 (ix2 ⟨(y 0).val / 8, h⟩ (y 1))).toNat ((y 0).val % 8))

theorem trips_eq : k0_t1_loop.trips = 512 := by decide +kernel

/-- Every store of the loop is a block of the decoded weights. -/
theorem loop_pieces (c : Dev nD) (i : grid0.Coords) (arg2 : Memref sig .tc .vmem S512x256 .i32) (harg2 : arg2.IsWhole) (arg3 : Memref sig .tc .vmem S512x256 .i32) (harg3 : arg3.IsWhole) (arg4 : Memref sig .tc .vmem S256x8x128 .f32) (harg4 : arg4.IsWhole) (arg5 : Memref sig .tc .vmem S256x8x128 .f32) (harg5 : arg5.IsWhole) (arg6 : Memref sig .tc .vmem S32x256 .f32) (harg6 : arg6.IsWhole) (arg7 : Memref sig .tc .vmem S128x128 .f32) (harg7 : arg7.IsWhole) (arg8 : Memref sig .tc .vmem S4096x256 .bf16) (harg8 : arg8.IsWhole) (arg9 : Memref sig .tc .vmem S4096x256 .f32) (harg9 : arg9.IsWhole)
    (x0 : Vec Ideal S512x256 .i32) (x1 : Vec Ideal S512x256 .i32) (x2 : Vec Ideal S256x8x128 .f32) (x3 : Vec Ideal S256x8x128 .f32) (x4 : Vec Ideal S32x256 .f32) (x5 : Vec Ideal S128x128 .f32) (T : ℕ → EReal)
    (hlo : ∀ (c : Fin 256) r x, x2 (ix3 c r x) = T (2 * (128 * c.val + x.val) + 0))
    (hhi : ∀ (c : Fin 256) r x, x3 (ix3 c r x) = T (2 * (128 * c.val + x.val) + 1))
    (h0 : ∀ y, (x0 y).toNat < 65536) (h1 : ∀ y, (x1 y).toNat < 65536) (n : ℕ) (hn : n ≤ 512) :
    (∀ p ∈ pb_k0_t1 (F := Ideal) Variants.none c none i arg2 harg2 arg3 harg3 arg4 harg4 arg5 harg5 arg6 harg6 arg7 harg7 arg8 harg8 arg9 harg9 (harg2.unread x0) (harg3.unread x1) (harg4.unread x2) (harg5.unread x3) n,
      ∀ x : p.1.shape.Idx, p.2 x = weight T x0 x1 (p.1.emb x)) ∧
    (∀ y : S4096x256.Idx, (y 0).val < 8 * n → ∃ p ∈ pb_k0_t1 (F := Ideal) Variants.none c none i arg2 harg2 arg3 harg3 arg4 harg4 arg5 harg5 arg6 harg6 arg7 harg7 arg8 harg8 arg9 harg9 (harg2.unread x0) (harg3.unread x1) (harg4.unread x2) (harg5.unread x3) n, y ∈ p.1.set) := by
  induction n with
  | zero => exact ⟨fun p hp => absurd hp List.not_mem_nil, fun y hy => absurd hy (by omega)⟩
  | succ n ih =>
    obtain ⟨ih1, ih2⟩ := ih (by omega)
    have hk : n < k0_t1_loop.trips := by rw [trips_eq]; omega
    have hs := pb_k0_t1_succ (F := Ideal) Variants.none c none i arg2 harg2 arg3 harg3 arg4 harg4 arg5 harg5 arg6 harg6 arg7 harg7 arg8 harg8 arg9 harg9 (harg2.unread x0) (harg3.unread x1) (harg4.unread x2) (harg5.unread x3) ⟨n, hk⟩
    simp only [tripL_k0_t1, trip_eq] at hs
    rw [hs]
    refine ⟨fun p hp => ?_, fun y hy => ?_⟩
    · rcases List.mem_append.mp hp with hp | hp
      · obtain rfl := List.mem_singleton.mp hp
        intro x
        obtain ⟨r, l, rfl⟩ : ∃ (r : Fin 8) (l : Fin 256), x = ix2 r l := ⟨x 0, x 1, funext fun a => by
          match a with
          | ⟨0, _⟩ => rfl
          | ⟨1, _⟩ => rfl⟩
        have e0 : ∀ (arg : Memref sig .tc .vmem S512x256 .i32) (harg : arg.IsWhole) (X : Vec Ideal S512x256 .i32),
            View.readAt (Elt Ideal) arg.view (Rect.unit (s := S512x256) (k0_off1 ⟨n, hk⟩) S1x256.size (k0_off1_inb ⟨n, hk⟩)).toLoadRect (harg.unread X) (ix2 0 l)
              = X (ix2 ⟨n, by omega⟩ l) := by
          intro arg harg X
          rw [View.readAt_eq_ld, harg.read_unread]
          show X _ = X _
          refine congrArg X (funext fun a => Fin.ext ?_)
          match a with
          | ⟨0, _⟩ =>
            show k0_off1 ⟨n, hk⟩ 0 + 1 * 0 = n
            rw [k0_off1_eq]
            rfl
          | ⟨1, _⟩ =>
            show k0_off1 ⟨n, hk⟩ 1 + 1 * l.val = l.val
            rw [k0_off1_eq]
            show 0 + 1 * l.val = l.val
            omega
        show found _ _ _ _ (ix2 r l) = _
        have hf := found_apply (chunk arg4 (harg4.unread x2)) (chunk arg5 (harg5.unread x3)) T
          (fun c hc r x => (chunk_apply arg4 harg4 x2 c hc r x).trans (hlo ⟨c, hc⟩ r x))
          (fun c hc r x => (chunk_apply arg5 harg5 x3 c hc r x).trans (hhi ⟨c, hc⟩ r x))
          (View.readAt (Elt Ideal) arg2.view (Rect.unit (s := S512x256) (k0_off1 ⟨n, hk⟩) S1x256.size (k0_off1_inb ⟨n, hk⟩)).toLoadRect (harg2.unread x0))
          (View.readAt (Elt Ideal) arg3.view (Rect.unit (s := S512x256) (k0_off1 ⟨n, hk⟩) S1x256.size (k0_off1_inb ⟨n, hk⟩)).toLoadRect (harg3.unread x1))
          r l (by rw [e0]; exact h0 _) (by rw [e0]; exact h1 _)
        rw [e0, e0] at hf
        refine hf.trans ?_
        have q0 : (((Rect.unit (s := S4096x256) (k0_off2 ⟨n, hk⟩) S8x256.size (k0_off2_inb ⟨n, hk⟩)).emb (ix2 r l)) 0).val = 8 * n + r.val := by
          show k0_off2 ⟨n, hk⟩ 0 + 1 * r.val = _
          rw [k0_off2_eq]
          show 8 * n + 1 * r.val = _
          omega
        have q1 : ((Rect.unit (s := S4096x256) (k0_off2 ⟨n, hk⟩) S8x256.size (k0_off2_inb ⟨n, hk⟩)).emb (ix2 r l)) 1 = l := by
          refine Fin.ext ?_
          show k0_off2 ⟨n, hk⟩ 1 + 1 * l.val = _
          rw [k0_off2_eq]
          show 0 + 1 * l.val = _
          omega
        unfold weight
        have d0 : (8 * n + r.val) / 8 = n := by omega
        have d1 : (8 * n + r.val) % 8 = r.val := by omega
        simp only [q0, q1, d0, d1]
      · exact ih1 p hp
    · by_cases hlt : (y 0).val < 8 * n
      · obtain ⟨p, hp, hy'⟩ := ih2 y hlt
        exact ⟨p, List.mem_append_right _ hp, hy'⟩
      · refine ⟨_, List.mem_append_left _ (List.mem_singleton_self _), ?_⟩
        have hm := (Rect.unit (s := S4096x256) (k0_off2 ⟨n, hk⟩) S8x256.size (k0_off2_inb ⟨n, hk⟩)).idx_mem (ix2 (n0 := 8) (n1 := 256) ⟨(y 0).val - 8 * n, by omega⟩ (y 1))
        have e : (Rect.unit (s := S4096x256) (k0_off2 ⟨n, hk⟩) S8x256.size (k0_off2_inb ⟨n, hk⟩)).idx (ix2 (n0 := 8) (n1 := 256) ⟨(y 0).val - 8 * n, by omega⟩ (y 1)) = y := by
          refine funext fun a => Fin.ext ?_
          match a with
          | ⟨0, _⟩ =>
            show k0_off2 ⟨n, hk⟩ 0 + 1 * ((y 0).val - 8 * n) = (y 0).val
            rw [k0_off2_eq]
            show 8 * n + 1 * ((y 0).val - 8 * n) = (y 0).val
            omega
          | ⟨1, _⟩ =>
            show k0_off2 ⟨n, hk⟩ 1 + 1 * (y 1).val = (y 1).val
            rw [k0_off2_eq]
            show 0 + 1 * (y 1).val = (y 1).val
            omega
        rw [e] at hm
        exact hm

/-- A group of rows turned and scaled, at one element. -/
theorem turned_apply (H : Vec Ideal S128x128 .f32) (V : Vec Ideal S128x256 .f32) (s : Vec Ideal S1x256 .f32) (p : Fin 128) (l : Fin 256) :
    k0_pay2160 (F := Ideal) H V s (ix2 p l) = (∑ k : Fin 128, H (ix2 p k) * V (ix2 k l)) * s (ix2 0 l) := by
  pointwise [k0_pay2160]

/-- WHAT THE BLOCK HOLDS at row `y 0` and lane `y 1`. -/
theorem block_apply (c : Dev nD) (i : grid0.Coords) (arg2 : Memref sig .tc .vmem S512x256 .i32) (harg2 : arg2.IsWhole) (arg3 : Memref sig .tc .vmem S512x256 .i32) (harg3 : arg3.IsWhole) (arg4 : Memref sig .tc .vmem S256x8x128 .f32) (harg4 : arg4.IsWhole) (arg5 : Memref sig .tc .vmem S256x8x128 .f32) (harg5 : arg5.IsWhole) (arg6 : Memref sig .tc .vmem S32x256 .f32) (harg6 : arg6.IsWhole) (arg7 : Memref sig .tc .vmem S128x128 .f32) (harg7 : arg7.IsWhole) (arg8 : Memref sig .tc .vmem S4096x256 .bf16) (harg8 : arg8.IsWhole) (arg9 : Memref sig .tc .vmem S4096x256 .f32) (harg9 : arg9.IsWhole)
    (x0 : Vec Ideal S512x256 .i32) (x1 : Vec Ideal S512x256 .i32) (x2 : Vec Ideal S256x8x128 .f32) (x3 : Vec Ideal S256x8x128 .f32) (x4 : Vec Ideal S32x256 .f32) (x5 : Vec Ideal S128x128 .f32) (T : ℕ → EReal)
    (hlo : ∀ (c : Fin 256) r x, x2 (ix3 c r x) = T (2 * (128 * c.val + x.val) + 0))
    (hhi : ∀ (c : Fin 256) r x, x3 (ix3 c r x) = T (2 * (128 * c.val + x.val) + 1))
    (h0 : ∀ y, (x0 y).toNat < 65536) (h1 : ∀ y, (x1 y).toNat < 65536) (g : Fin 32) (p : Fin 128) (l : Fin 256) :
    out0_A_6 (F := Ideal) c i arg2 harg2 arg3 harg3 arg4 harg4 arg5 harg5 arg6 harg6 arg7 harg7 arg8 harg8 arg9 harg9 x0 x1 x2 x3 x4 x5 (ix2 (n0 := 4096) ⟨128 * g.val + p.val, by omega⟩ l)
      = (∑ k : Fin 128, x5 (ix2 p k) * weight T x0 x1 (ix2 (n0 := 4096) (n1 := 256) ⟨128 * g.val + k.val, by omega⟩ l)) * x4 (ix2 g l) := by
  have hp := loop_pieces c i arg2 harg2 arg3 harg3 arg4 harg4 arg5 harg5 arg6 harg6 arg7 harg7 arg8 harg8 arg9 harg9 x0 x1 x2 x3 x4 x5 T hlo hhi h0 h1 512 le_rfl
  have ht : Scf.trips k0_t1_loop.lb k0_t1_loop.ub k0_t1_loop.st = 512 := trips_eq
  unfold out0_A_6
  rw [View.read_writes_junk_apply_eq_canon, run_eq, ht]
  have hcan : ∀ n : ℕ, arg9.view.readCov (pb_k0_t1 (F := Ideal) Variants.none c none i arg2 harg2 arg3 harg3 arg4 harg4 arg5 harg5 arg6 harg6 arg7 harg7 arg8 harg8 arg9 harg9 (harg2.unread x0) (harg3.unread x1) (harg4.unread x2) (harg5.unread x3) 512) (rows n).toLoadRect
      = fun j => weight T x0 x1 ((rows n).idx j) := by
    intro n
    rw [View.readCov_eq_canon']
    funext j
    exact View.canon_apply_of_pieces _ _ hp.1 _ (hp.2 _ (Fin.isLt _))
  simp only [hcan]
  obtain ⟨G, hG⟩ : ∃ G : S4096x256.Idx → EReal, G = fun y =>
      (∑ k : Fin 128, x5 (ix2 ⟨(y 0).val % 128, Nat.mod_lt _ (by decide)⟩ k) * weight T x0 x1 (ix2 (n0 := 4096) (n1 := 256) ⟨128 * ((y 0).val / 128) + k.val, by
        have : (y 0).val < 4096 := (y 0).isLt
        omega⟩ (y 1))) * x4 (ix2 ⟨(y 0).val / 128, Nat.div_lt_of_lt_mul (y 0).isLt⟩ (y 1)) := ⟨_, rfl⟩
  have hst : ∀ n, n ≤ 32 →
      (∀ q ∈ stores (F := Ideal) (View.readAt (Elt Ideal) arg7.view (Rect.unit (s := S128x128) ![0, 0] S128x128.size inb_S128x128_S128x128_0_0).toLoadRect (harg7.unread x5))
          (fun n j => weight T x0 x1 ((rows n).idx j)) (fun n => View.readAt (Elt Ideal) arg6.view (scale n).toLoadRect (harg6.unread x4)) n,
        ∀ x : q.1.shape.Idx, q.2 x = G (q.1.emb x)) ∧
      (∀ y : S4096x256.Idx, (y 0).val < 128 * n → ∃ q ∈ stores (F := Ideal) (View.readAt (Elt Ideal) arg7.view (Rect.unit (s := S128x128) ![0, 0] S128x128.size inb_S128x128_S128x128_0_0).toLoadRect (harg7.unread x5))
          (fun n j => weight T x0 x1 ((rows n).idx j)) (fun n => View.readAt (Elt Ideal) arg6.view (scale n).toLoadRect (harg6.unread x4)) n, y ∈ q.1.set) := by
    intro n
    induction n with
    | zero => exact fun _ => ⟨fun p hp => absurd hp List.not_mem_nil, fun y hy => absurd hy (by omega)⟩
    | succ n ih =>
      intro hn
      obtain ⟨ih1, ih2⟩ := ih (by omega)
      have hm : n % 32 = n := Nat.mod_eq_of_lt (by omega)
      refine ⟨fun q hq => ?_, fun y hy => ?_⟩
      · rcases List.mem_cons.mp hq with rfl | hq
        · intro x
          obtain ⟨r, l, rfl⟩ : ∃ (r : Fin 128) (l : Fin 256), x = ix2 r l := ⟨x 0, x 1, funext fun a => by
            match a with
            | ⟨0, _⟩ => rfl
            | ⟨1, _⟩ => rfl⟩
          refine (turned_apply _ _ _ r l).trans ?_
          have q0 : (((rows n).emb (ix2 r l)) 0).val = 128 * n + r.val := by
            show 128 * (n % 32) + 1 * r.val = _
            omega
          have q1 : ((rows n).emb (ix2 r l)) 1 = l := by
            refine Fin.ext ?_
            show 0 + 1 * l.val = _
            omega
          have d0 : (128 * n + r.val) / 128 = n := by omega
          have d1 : (128 * n + r.val) % 128 = r.val := by omega
          rw [hG]
          simp only [q0, q1, d0, d1]
          rw [View.readAt_eq_ld, View.readAt_eq_ld, harg7.read_unread, harg6.read_unread]
          congr 1
          · refine Finset.sum_congr rfl fun k _ => congrArg₂ (· * ·) ?_ ?_
            · show x5 _ = x5 _
              refine congrArg x5 (funext fun a => Fin.ext ?_)
              match a with
              | ⟨0, _⟩ =>
                show 0 + 1 * r.val = r.val
                omega
              | ⟨1, _⟩ =>
                show 0 + 1 * k.val = k.val
                omega
            · refine congrArg (weight T x0 x1) (funext fun a => Fin.ext ?_)
              match a with
              | ⟨0, _⟩ =>
                show 128 * (n % 32) + 1 * k.val = 128 * n + k.val
                omega
              | ⟨1, _⟩ =>
                show 0 + 1 * l.val = l.val
                omega
          · show x4 _ = x4 _
            refine congrArg x4 (funext fun a => Fin.ext ?_)
            match a with
            | ⟨0, _⟩ =>
              show n % 32 + 1 * 0 = n
              omega
            | ⟨1, _⟩ =>
              show 0 + 1 * l.val = l.val
              omega
        · exact ih1 q hq
      · by_cases hlt : (y 0).val < 128 * n
        · obtain ⟨q, hq, hy'⟩ := ih2 y hlt
          exact ⟨q, List.mem_cons_of_mem _ hq, hy'⟩
        · refine ⟨_, List.mem_cons_self, ?_⟩
          have hm' := (rows n).idx_mem (ix2 (n0 := 128) (n1 := 256) ⟨(y 0).val - 128 * n, by omega⟩ (y 1))
          have e : (rows n).idx (ix2 (n0 := 128) (n1 := 256) ⟨(y 0).val - 128 * n, by omega⟩ (y 1)) = y := by
            refine funext fun a => Fin.ext ?_
            match a with
            | ⟨0, _⟩ =>
              show 128 * (n % 32) + 1 * ((y 0).val - 128 * n) = (y 0).val
              omega
            | ⟨1, _⟩ =>
              show 0 + 1 * (y 1).val = (y 1).val
              omega
          rw [e] at hm'
          exact hm'
  refine (View.canon_apply_of_pieces G _ (hst 32 le_rfl).1 _ ((hst 32 le_rfl).2 _ (Fin.isLt _))).trans ?_
  rw [hG]
  have d0 : (128 * g.val + p.val) / 128 = g.val := by omega
  have d1 : (128 * g.val + p.val) % 128 = p.val := by omega
  show (∑ k : Fin 128, x5 (ix2 ⟨(128 * g.val + p.val) % 128, _⟩ k) * weight T x0 x1 (ix2 (n0 := 4096) (n1 := 256) ⟨128 * ((128 * g.val + p.val) / 128) + k.val, _⟩ l))
    * x4 (ix2 ⟨(128 * g.val + p.val) / 128, _⟩ l) = _
  simp only [d0, d1]

end Cert.Dec

end
-- ==== Proof.Dec.Regions.lean ====
module

public import proofs.«01_k».proof.Proof.Dec.Block
public import Idealize.ShloMosaic.Lib.Pipeline.Value

@[expose] public section

noncomputable section

namespace Cert.Dec

open Idealize.ShloMosaic Idealize.ShloMosaic.TcCoe Idealize.SL.Sem Cert.KernelIdeal Cert.KernelIdeal.Gen
open Idealize.ShloMosaic.Pipeline (Dat)

/-! ## The arrays the two calls leave, element by element -/

variable (V : (c : Dev nD) → (b : Ref sig .tc) → Buf (Elt Ideal) ((c : Thread nD τ).loc b))

/-- The weight of input `i` and output `o` before the transform. -/
def raw (T : ℕ → EReal) (A B : Vec Ideal S512x4096 .i32) (i o : Fin 4096) : EReal :=
  have h : i.val / 8 < 512 := Nat.div_lt_of_lt_mul i.isLt
  T (win (A (ix2 ⟨i.val / 8, h⟩ o)).toNat (B (ix2 ⟨i.val / 8, h⟩ o)).toNat (i.val % 8))

theorem raw_mk (T : ℕ → EReal) (A B : Vec Ideal S512x4096 .i32) (n : ℕ) (hn : n < 4096) (o : Fin 4096) :
    raw T A B ⟨n, hn⟩ o
      = T (win (A (ix2 ⟨n / 8, Nat.div_lt_of_lt_mul hn⟩ o)).toNat (B (ix2 ⟨n / 8, Nat.div_lt_of_lt_mul hn⟩ o)).toNat (n % 8)) := rfl

/-- The transformed and scaled weight of group `g`, row `p` and output `o`. -/
def turn (T : ℕ → EReal) (A B : Vec Ideal S512x4096 .i32) (H : Vec Ideal S128x128 .f32) (s : Vec Ideal S32x4096 .f32)
    (g : Fin 32) (p : Fin 128) (o : Fin 4096) : EReal :=
  (∑ k : Fin 128, H (ix2 p k) * raw T A B ⟨128 * g.val + k.val, by omega⟩ o) * s (ix2 g o)

/-- The array of the transformed weights. -/
def turned (T : ℕ → EReal) (A B : Vec Ideal S512x4096 .i32) (H : Vec Ideal S128x128 .f32) (s : Vec Ideal S32x4096 .f32) :
    Vec Ideal S4096x4096 .bf16 := fun y =>
  turn T A B H s ⟨(y 0).val / 128, Nat.div_lt_of_lt_mul (y 0).isLt⟩ ⟨(y 0).val % 128, Nat.mod_lt _ (by decide)⟩ (y 1)

theorem idx0_0 : ∀ t : Fin grid0.N, win0_0.index t 0 = 0 ∧ win0_0.index t 1 = t.val := by decide +kernel
theorem idx0_1 : ∀ t : Fin grid0.N, win0_1.index t 0 = 0 ∧ win0_1.index t 1 = t.val := by decide +kernel
theorem idx0_2 : ∀ t : Fin grid0.N, win0_2.index t 0 = 0 ∧ win0_2.index t 1 = 0 ∧ win0_2.index t 2 = 0 := by decide +kernel
theorem idx0_3 : ∀ t : Fin grid0.N, win0_3.index t 0 = 0 ∧ win0_3.index t 1 = 0 ∧ win0_3.index t 2 = 0 := by decide +kernel
theorem idx0_4 : ∀ t : Fin grid0.N, win0_4.index t 0 = 0 ∧ win0_4.index t 1 = t.val := by decide +kernel
theorem idx0_5 : ∀ t : Fin grid0.N, win0_5.index t 0 = 0 ∧ win0_5.index t 1 = 0 := by decide +kernel
theorem idx0_6 : ∀ t : Fin grid0.N, win0_6.index t 0 = 0 ∧ win0_6.index t 1 = t.val := by decide +kernel
theorem idx1_0 : ∀ t : Fin grid1.N, win1_0.index t 0 = t.val / 4 ∧ win1_0.index t 1 = 0 := by decide +kernel
theorem idx1_1 : ∀ t : Fin grid1.N, win1_1.index t 0 = 0 ∧ win1_1.index t 1 = t.val % 4 := by decide +kernel
theorem idx1_2 : ∀ t : Fin grid1.N, win1_2.index t 0 = t.val / 4 ∧ win1_2.index t 1 = t.val % 4 := by decide +kernel
theorem points0 : cfg0.N = 16 := by decide +kernel
theorem points1 : cfg1.N = 32 := by decide +kernel

theorem lt0 (t : Fin cfg0.N) : t.val < 16 := lt_of_lt_of_eq t.isLt points0
theorem lt1 (t : Fin cfg1.N) : t.val < 32 := lt_of_lt_of_eq t.isLt points1

theorem blk0_0 (c : Dev nD) (t : Fin cfg0.N) (r : Fin 512) (l : Fin 256) :
    iblk0 V c 0 t (ix2 r l) = V c main_v2 (ix2 (n0 := 512) (n1 := 4096) r ⟨256 * t.val + l.val, by have := lt0 t; omega⟩) := by
  unfold iblk0
  rw [View.read_apply]
  show V c main_v2 _ = V c main_v2 _
  congr 1
  funext a
  apply Fin.ext
  match a with
  | ⟨0, _⟩ => show win0_0.index t 0 * 512 + 1 * r.val = r.val; rw [(idx0_0 t).1]; omega
  | ⟨1, _⟩ => show win0_0.index t 1 * 256 + 1 * l.val = 256 * t.val + l.val; rw [(idx0_0 t).2]; omega

theorem blk0_1 (c : Dev nD) (t : Fin cfg0.N) (r : Fin 512) (l : Fin 256) :
    iblk0 V c 1 t (ix2 r l) = V c main_v6 (ix2 (n0 := 512) (n1 := 4096) r ⟨256 * t.val + l.val, by have := lt0 t; omega⟩) := by
  unfold iblk0
  rw [View.read_apply]
  show V c main_v6 _ = V c main_v6 _
  congr 1
  funext a
  apply Fin.ext
  match a with
  | ⟨0, _⟩ => show win0_1.index t 0 * 512 + 1 * r.val = r.val; rw [(idx0_1 t).1]; omega
  | ⟨1, _⟩ => show win0_1.index t 1 * 256 + 1 * l.val = 256 * t.val + l.val; rw [(idx0_1 t).2]; omega

theorem blk0_2 (c : Dev nD) (t : Fin cfg0.N) (q : Fin 256) (r : Fin 8) (x : Fin 128) :
    iblk0 V c 2 t (ix3 q r x) = V c main_v12 (ix3 q r x) := by
  unfold iblk0
  rw [View.read_apply]
  show V c main_v12 _ = V c main_v12 _
  congr 1
  funext a
  apply Fin.ext
  match a with
  | ⟨0, _⟩ => show win0_2.index t 0 * 256 + 1 * q.val = q.val; rw [(idx0_2 t).1]; omega
  | ⟨1, _⟩ => show win0_2.index t 1 * 8 + 1 * r.val = r.val; rw [(idx0_2 t).2.1]; omega
  | ⟨2, _⟩ => show win0_2.index t 2 * 128 + 1 * x.val = x.val; rw [(idx0_2 t).2.2]; omega

theorem blk0_3 (c : Dev nD) (t : Fin cfg0.N) (q : Fin 256) (r : Fin 8) (x : Fin 128) :
    iblk0 V c 3 t (ix3 q r x) = V c main_v15 (ix3 q r x) := by
  unfold iblk0
  rw [View.read_apply]
  show V c main_v15 _ = V c main_v15 _
  congr 1
  funext a
  apply Fin.ext
  match a with
  | ⟨0, _⟩ => show win0_3.index t 0 * 256 + 1 * q.val = q.val; rw [(idx0_3 t).1]; omega
  | ⟨1, _⟩ => show win0_3.index t 1 * 8 + 1 * r.val = r.val; rw [(idx0_3 t).2.1]; omega
  | ⟨2, _⟩ => show win0_3.index t 2 * 128 + 1 * x.val = x.val; rw [(idx0_3 t).2.2]; omega

theorem blk0_4 (c : Dev nD) (t : Fin cfg0.N) (g : Fin 32) (l : Fin 256) :
    iblk0 V c 4 t (ix2 g l) = V c main_v17 (ix2 (n0 := 32) (n1 := 4096) g ⟨256 * t.val + l.val, by have := lt0 t; omega⟩) := by
  unfold iblk0
  rw [View.read_apply]
  show V c main_v17 _ = V c main_v17 _
  congr 1
  funext a
  apply Fin.ext
  match a with
  | ⟨0, _⟩ => show win0_4.index t 0 * 32 + 1 * g.val = g.val; rw [(idx0_4 t).1]; omega
  | ⟨1, _⟩ => show win0_4.index t 1 * 256 + 1 * l.val = 256 * t.val + l.val; rw [(idx0_4 t).2]; omega

theorem blk0_5 (c : Dev nD) (t : Fin cfg0.N) (p k : Fin 128) :
    iblk0 V c 5 t (ix2 p k) = V c main_cst (ix2 p k) := by
  unfold iblk0
  rw [View.read_apply]
  show V c main_cst _ = V c main_cst _
  congr 1
  funext a
  apply Fin.ext
  match a with
  | ⟨0, _⟩ => show win0_5.index t 0 * 128 + 1 * p.val = p.val; rw [(idx0_5 t).1]; omega
  | ⟨1, _⟩ => show win0_5.index t 1 * 128 + 1 * k.val = k.val; rw [(idx0_5 t).2]; omega

theorem weight_ix2 (T : ℕ → EReal) (x0 x1 : Vec Ideal S512x256 .i32) (n : ℕ) (hn : n < 4096) (l : Fin 256) :
    weight T x0 x1 (ix2 (n0 := 4096) (n1 := 256) ⟨n, hn⟩ l)
      = T (win (x0 (ix2 ⟨n / 8, Nat.div_lt_of_lt_mul hn⟩ l)).toNat (x1 (ix2 ⟨n / 8, Nat.div_lt_of_lt_mul hn⟩ l)).toNat (n % 8)) := rfl

/-- THE FIRST CALL'S ARRAY. -/
theorem array0 (c : Dev nD) (T : ℕ → EReal)
    (hlo : ∀ (q : Fin 256) (r : Fin 8) (x : Fin 128), V c main_v12 (ix3 q r x) = T (2 * (128 * q.val + x.val) + 0))
    (hhi : ∀ (q : Fin 256) (r : Fin 8) (x : Fin 128), V c main_v15 (ix3 q r x) = T (2 * (128 * q.val + x.val) + 1))
    (hA : ∀ (r : Fin 512) (o : Fin 4096), (V c main_v2 (ix2 r o) : BitVec 32).toNat < 65536)
    (hB : ∀ (r : Fin 512) (o : Fin 4096), (V c main_v6 (ix2 r o) : BitVec 32).toNat < 65536) :
    (dat0 V c).arrAt 6 cfg0.N = turned T (V c main_v2) (V c main_v6) (V c main_cst) (V c main_v17) := by
  refine (dat0 V c).arrAt_eq_of_cover 6 _ (fun t _ => ?_) fun (y : S4096x4096.Idx) => ?_
  · have hN := lt0 t
    show (cfg0.win 6).cut (grid0.coords t) ((dat0 V c).after 6 t) = _
    rw [after0_6]
    unfold outsAt0
    funext j
    obtain ⟨g, p, l, rfl⟩ : ∃ (g : Fin 32) (p : Fin 128) (l : Fin 256), j = ix2 (n0 := 4096) (n1 := 256) ⟨128 * g.val + p.val, by omega⟩ l := by
      have h0 : (j 0).val < 4096 := (j 0).isLt
      refine ⟨⟨(j 0).val / 128, by omega⟩, ⟨(j 0).val % 128, by omega⟩, j 1, funext fun a => ?_⟩
      match a with
      | ⟨0, _⟩ =>
        refine Fin.ext ?_
        show (j 0).val = 128 * ((j 0).val / 128) + (j 0).val % 128
        omega
      | ⟨1, _⟩ => rfl
    have e2 : ∀ y : S512x256.Idx, ∃ (r : Fin 512) (l : Fin 256), y = ix2 r l := fun y => ⟨y 0, y 1, funext fun a => by
      match a with
      | ⟨0, _⟩ => rfl
      | ⟨1, _⟩ => rfl⟩
    refine (block_apply c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (iblk0 V c 0 t) (iblk0 V c 1 t) (iblk0 V c 2 t) (iblk0 V c 3 t) (iblk0 V c 4 t) (iblk0 V c 5 t) T
      (fun q r x => (blk0_2 V c t q r x).trans (hlo q r x)) (fun q r x => (blk0_3 V c t q r x).trans (hhi q r x))
      (fun y => by obtain ⟨r, l, rfl⟩ := e2 y; rw [blk0_0]; exact hA _ _) (fun y => by obtain ⟨r, l, rfl⟩ := e2 y; rw [blk0_1]; exact hB _ _) g p l).trans ?_
    rw [View.read_apply]
    have hy : ((cfg0.win 6).blk t).view.emb (ix2 (n0 := 4096) (n1 := 256) ⟨128 * g.val + p.val, by omega⟩ l)
        = ix2 (n0 := 4096) (n1 := 4096) ⟨128 * g.val + p.val, by omega⟩ ⟨256 * t.val + l.val, by omega⟩ := by
      funext a
      apply Fin.ext
      match a with
      | ⟨0, _⟩ => show win0_6.index t 0 * 4096 + 1 * (128 * g.val + p.val) = 128 * g.val + p.val; rw [(idx0_6 t).1]; omega
      | ⟨1, _⟩ => show win0_6.index t 1 * 256 + 1 * l.val = 256 * t.val + l.val; rw [(idx0_6 t).2]; omega
    rw [hy]
    show _ = turn T _ _ _ _ ⟨(128 * g.val + p.val) / 128, _⟩ ⟨(128 * g.val + p.val) % 128, _⟩ ⟨256 * t.val + l.val, _⟩
    have d0 : (128 * g.val + p.val) / 128 = g.val := by omega
    have d1 : (128 * g.val + p.val) % 128 = p.val := by omega
    simp only [d0, d1]
    unfold turn
    rw [blk0_4]
    congr 1
    refine Finset.sum_congr rfl fun k _ => ?_
    refine congrArg₂ (· * ·) (blk0_5 V c t p k) ?_
    refine (weight_ix2 T _ _ _ _ l).trans ?_
    refine Eq.trans ?_ (raw_mk T _ _ _ (by omega) _).symm
    exact congrArg T (congrArg₂ (fun a b : BitVec 32 => win a.toNat b.toNat ((128 * g.val + k.val) % 8))
      (blk0_0 V c t _ l) (blk0_1 V c t _ l))
  · have hy0 : (y 0).val < 4096 := (y 0).isLt
    have hy1 : (y 1).val < 4096 := (y 1).isLt
    obtain ⟨t, ht⟩ : ∃ t : Fin cfg0.N, t.val = (y 1).val / 256 := ⟨⟨_, by rw [points0]; omega⟩, rfl⟩
    refine ⟨t, flush0_6 _, ?_⟩
    show y ∈ ((View.whole main_v18).slice (win0_6.rect t)).set
    rw [View.set_slice_whole, Rect.mem_set_unit]
    intro a
    match a with
    | ⟨0, _⟩ =>
      show win0_6.index t 0 * 4096 ≤ (y 0).val ∧ (y 0).val < win0_6.index t 0 * 4096 + 4096
      rw [(idx0_6 t).1]
      omega
    | ⟨1, _⟩ =>
      show win0_6.index t 1 * 256 ≤ (y 1).val ∧ (y 1).val < win0_6.index t 1 * 256 + 256
      rw [(idx0_6 t).2]
      omega

/-- The product of the second call. -/
def prod (X : Vec Ideal S8192x4096 .bf16) (W : Vec Ideal S4096x4096 .bf16) : Vec Ideal S8192x4096 .f32 := fun y =>
  ∑ i : Fin 4096, X (ix2 (y 0) i) * W (ix2 i (y 1))

theorem prod_ix2 (X : Vec Ideal S8192x4096 .bf16) (W : Vec Ideal S4096x4096 .bf16) (r : Fin 8192) (o : Fin 4096) :
    prod X W (ix2 r o) = ∑ i : Fin 4096, X (ix2 r i) * W (ix2 i o) := rfl

theorem blk1_0 (c : Dev nD) (t : Fin cfg1.N) (r : Fin 1024) (i : Fin 4096) :
    iblk1 V c 0 t (ix2 r i) = V c main_v20 (ix2 (n0 := 8192) (n1 := 4096) ⟨1024 * (t.val / 4) + r.val, by have := lt1 t; omega⟩ i) := by
  unfold iblk1
  rw [View.read_apply]
  show V c main_v20 _ = V c main_v20 _
  congr 1
  funext a
  apply Fin.ext
  match a with
  | ⟨0, _⟩ => show win1_0.index t 0 * 1024 + 1 * r.val = 1024 * (t.val / 4) + r.val; rw [(idx1_0 t).1]; omega
  | ⟨1, _⟩ => show win1_0.index t 1 * 4096 + 1 * i.val = i.val; rw [(idx1_0 t).2]; omega

theorem blk1_1 (c : Dev nD) (t : Fin cfg1.N) (i : Fin 4096) (l : Fin 1024) :
    iblk1 V c 1 t (ix2 i l) = V c main_v18 (ix2 (n0 := 4096) (n1 := 4096) i ⟨1024 * (t.val % 4) + l.val, by omega⟩) := by
  unfold iblk1
  rw [View.read_apply]
  show V c main_v18 _ = V c main_v18 _
  congr 1
  funext a
  apply Fin.ext
  match a with
  | ⟨0, _⟩ => show win1_1.index t 0 * 4096 + 1 * i.val = i.val; rw [(idx1_1 t).1]; omega
  | ⟨1, _⟩ => show win1_1.index t 1 * 1024 + 1 * l.val = 1024 * (t.val % 4) + l.val; rw [(idx1_1 t).2]; omega

theorem pay1_apply (x0 : Vec Ideal S1024x4096 .bf16) (x1 : Vec Ideal S4096x1024 .bf16) (r l : Fin 1024) :
    k1_pay1 (F := Ideal) x0 x1 (ix2 r l) = ∑ i : Fin 4096, x0 (ix2 r i) * x1 (ix2 i l) := by
  pointwise [k1_pay1]

/-- THE SECOND CALL'S ARRAY. -/
theorem array1 (c : Dev nD) : (dat1 V c).arrAt 2 cfg1.N = prod (V c main_v20) (V c main_v18) := by
  have hz2 : (![0, 0] : Fin 2 → Nat) = fun _ => 0 := funext fun a => by fin_cases a <;> rfl
  refine (dat1 V c).arrAt_eq_of_cover 2 _ (fun t _ => ?_) fun (y : S8192x4096.Idx) => ?_
  · have hN := lt1 t
    show (cfg1.win 2).cut (grid1.coords t) ((dat1 V c).after 2 t) = _
    rw [after1_2]
    unfold out1_2
    rw [View.canon_unit_zero hz2, View.ld_unit_zero hz2, View.ld_unit_zero hz2]
    funext j
    obtain ⟨r, l, rfl⟩ : ∃ (r l : Fin 1024), j = ix2 r l := ⟨j 0, j 1, funext fun a => by
      match a with
      | ⟨0, _⟩ => rfl
      | ⟨1, _⟩ => rfl⟩
    refine (pay1_apply _ _ r l).trans ?_
    rw [View.read_apply]
    have hy : ((cfg1.win 2).blk t).view.emb (ix2 r l)
        = ix2 (n0 := 8192) (n1 := 4096) ⟨1024 * (t.val / 4) + r.val, by omega⟩ ⟨1024 * (t.val % 4) + l.val, by omega⟩ := by
      funext a
      apply Fin.ext
      match a with
      | ⟨0, _⟩ => show win1_2.index t 0 * 1024 + 1 * r.val = _; rw [(idx1_2 t).1]; show _ = 1024 * (t.val / 4) + r.val; omega
      | ⟨1, _⟩ => show win1_2.index t 1 * 1024 + 1 * l.val = _; rw [(idx1_2 t).2]; show _ = 1024 * (t.val % 4) + l.val; omega
    rw [hy]
    refine Eq.trans ?_ (prod_ix2 _ _ _ _).symm
    refine Finset.sum_congr rfl fun i _ => ?_
    rw [blk1_0, blk1_1]
  · have hy0 : (y 0).val < 8192 := (y 0).isLt
    have hy1 : (y 1).val < 4096 := (y 1).isLt
    obtain ⟨t, ht⟩ : ∃ t : Fin cfg1.N, t.val = 4 * ((y 0).val / 1024) + (y 1).val / 1024 :=
      ⟨⟨_, by rw [points1]; omega⟩, rfl⟩
    refine ⟨t, flush1_2 _, ?_⟩
    show y ∈ ((View.whole main_v21).slice (win1_2.rect t)).set
    rw [View.set_slice_whole, Rect.mem_set_unit]
    intro a
    match a with
    | ⟨0, _⟩ =>
      show win1_2.index t 0 * 1024 ≤ (y 0).val ∧ (y 0).val < win1_2.index t 0 * 1024 + 1024
      rw [(idx1_2 t).1]
      omega
    | ⟨1, _⟩ =>
      show win1_2.index t 1 * 1024 ≤ (y 1).val ∧ (y 1).val < win1_2.index t 1 * 1024 + 1024
      rw [(idx1_2 t).2]
      omega

end Cert.Dec

end
-- ==== Proof.Dec.Host.lean ====
module

public import proofs.«01_k».proof.Proof.Dec.HostPure
public import proofs.«01_k».proof.Proof.Dec.Regions
public import Idealize.ShloMosaic.Lib.StableHlo.Run

@[expose] public section

noncomputable section

namespace Cert.Dec

open Idealize.ShloMosaic Idealize.ShloMosaic.TcCoe Idealize.SL.Sem Cert.KernelIdeal Cert.KernelIdeal.Gen
open Idealize.ShloMosaic.StableHlo

/-! ## What the buffers hold at the two calls and at the end -/

variable (m : (ℓ : Loc nD τ sig) → Buf (Elt Ideal) ℓ) (ρ : Dev nD → PrngReg)

/-- The transform's entries. -/
def table : Vec Ideal S128x128 .f32 := fun i => FloatOps.ofBits (F := Ideal) .f32 (lit0 (S128x128.rowMajor i))

theorem V3_cst (c : Dev nD) : V3 m ρ c main_cst = table := by
  show W3 m ρ c (Proc.devRef .tc main_cst) = _
  rw [W3_of m ρ c main_cst (by decide), W2_of m ρ c main_cst (by decide)]
  show after hostOps0 (W0 m ρ c) (Proc.devRef .tc main_cst) = _
  after_results
  rfl

theorem V3_v2 (c : Dev nD) : V3 m ρ c main_v2 = expand (m ((c : Thread nD τ).loc main_arg1)) := by
  show W3 m ρ c (Proc.devRef .tc main_v2) = _
  rw [W3_of m ρ c main_v2 (by decide), W2_of m ρ c main_v2 (by decide)]
  show after hostOps0 (W0 m ρ c) (Proc.devRef .tc main_v2) = _
  after_results
  rfl

theorem W2_v3 (c : Dev nD) : W2 m ρ c (Proc.devRef .tc main_v3) = roll (m ((c : Thread nD τ).loc main_arg1)) := by
  show after hostOps0_1 (W1 m ρ c) (Proc.devRef .tc main_v3) = _
  after_results
  rfl

theorem V3_v6 (c : Dev nD) : V3 m ρ c main_v6 = expand (roll (m ((c : Thread nD τ).loc main_arg1))) := by
  show after hostOps0_2 (W2 m ρ c) (Proc.devRef .tc main_v6) = _
  after_results
  rfl

theorem V3_v12 (c : Dev nD) : V3 m ρ c main_v12 = half 0 slicesBy_S65536_S32768_0s2 (m ((c : Thread nD τ).loc main_arg2)) := by
  show after hostOps0_2 (W2 m ρ c) (Proc.devRef .tc main_v12) = _
  after_results
  rfl

theorem V3_v15 (c : Dev nD) : V3 m ρ c main_v15 = half 1 slicesBy_S65536_S32768_1s2 (m ((c : Thread nD τ).loc main_arg2)) := by
  show after hostOps0_2 (W2 m ρ c) (Proc.devRef .tc main_v15) = _
  after_results
  rfl

theorem V3_v17 (c : Dev nD) : V3 m ρ c main_v17
    = transpose S32x4096 [1, 0] (shapeCast S4096x32 (m ((c : Thread nD τ).loc main_arg3)) shapeCasts_S131072x1_S4096x32) transposes_S4096x32_S32x4096_1_0 := by
  show after hostOps0_2 (W2 m ρ c) (Proc.devRef .tc main_v17) = _
  after_results
  rfl

theorem V5_v20 (c : Dev nD) : V5 m ρ c main_v20
    = (truncf (F := Ideal) .bf16 (shapeCast S8192x4096 (m ((c : Thread nD τ).loc main_arg0) : Vec Ideal S4x2048x4096 .f32)
        shapeCasts_S4x2048x4096_S8192x4096) bitsLt_bf16_f32 : Vec Ideal S8192x4096 .bf16) := by
  show after hostOps1 (W4 m ρ c) (Proc.devRef .tc main_v20) = _
  after_results
  rw [W4_args m ρ c main_arg0 (by decide)]
  rfl

theorem V5_v18 (c : Dev nD) : V5 m ρ c main_v18 = (dat0 (V3 m ρ) c).arrAt 6 cfg0.N := by
  show W5 m ρ c (Proc.devRef .tc main_v18) = _
  rw [W5_of m ρ c main_v18 (by decide)]
  exact W4_arr m ρ c 6

theorem W7_v22 (c : Dev nD) : W7 m ρ c (Proc.devRef .tc main_v22)
    = shapeCast S4x2048x4096 ((dat1 (V5 m ρ) c).arrAt 2 cfg1.N : Vec Ideal S8192x4096 .f32) shapeCasts_S8192x4096_S4x2048x4096 := by
  show after hostOps2 (W6 m ρ c) (Proc.devRef .tc main_v22) = _
  after_results
  rw [show W6 m ρ c (Proc.devRef .tc main_v21) = _ from W6_arr m ρ c 2]
  rfl

end Cert.Dec

end
-- ==== Proof.Dec.Kernel.lean ====
module

public import proofs.«01_k».proof.Proof.Dec.Host

@[expose] public section

noncomputable section

namespace Cert.Dec

open Idealize.ShloMosaic Idealize.ShloMosaic.TcCoe Idealize.ShloMosaic.Tactic Idealize.SL Idealize.SL.Sem Cert.KernelIdeal Cert.KernelIdeal.Gen
open Idealize.SL.RA Idealize.SL.BI
open scoped Idealize.SL.BI
open Idealize.SL.BI.BIBase Idealize.SL.BI.Laws Idealize.SL.ProofMode
open Idealize.ShloMosaic.Rounds

/-! ## The kernel's run with its value -/

/-- The window of input `i` and output `o`. -/
def code (t : IVec S65536x32 32) (i o : Fin 4096) : ℕ :=
  win (t (ix2 (n0 := 65536) (n1 := 32) ⟨256 * (o.val / 16) + i.val / 16, by omega⟩ ⟨2 * (o.val % 16) + i.val / 8 % 2, by omega⟩)).toNat
    (t (ix2 (n0 := 65536) (n1 := 32) ⟨256 * (o.val / 16) + i.val / 16, by omega⟩ ⟨(2 * (o.val % 16) + i.val / 8 % 2 + 1) % 32, by omega⟩)).toNat (i.val % 8)

/-- The table's entry. -/
def entry (u : Vec Ideal S65536x1 .f32) (n : ℕ) : EReal := u (ix2 (n0 := 65536) (n1 := 1) ⟨n % 65536, Nat.mod_lt _ (by decide)⟩ 0)

/-- The result of the kernel at one element. -/
def result (x : Vec Ideal S4x2048x4096 .f32) (t : IVec S65536x32 32) (u : Vec Ideal S65536x1 .f32) (v : Vec Ideal S131072x1 .f32)
    (b : Fin 4) (s : Fin 2048) (o : Fin 4096) : EReal :=
  ∑ i : Fin 4096, x (ix3 b s i) * ((∑ k : Fin 128, table (ix2 (n0 := 128) (n1 := 128) ⟨i.val % 128, Nat.mod_lt _ (by decide)⟩ k)
      * entry u (code t ⟨128 * (i.val / 128) + k.val, by omega⟩ o))
    * v (ix2 (n0 := 131072) (n1 := 1) ⟨32 * o.val + i.val / 128, by omega⟩ 0))

section Value

/-- The resources of the launch. -/
abbrev Held := MT nD τ sig Unit (Elt Ideal) ℕ (UR sig nD τ) ℕ

variable (m : (ℓ : Loc nD τ sig) → Buf (Elt Ideal) ℓ) (ρ : Dev nD → PrngReg)

theorem raw_code (u : Vec Ideal S65536x1 .f32) (t : IVec S65536x32 32) (i o : Fin 4096) :
    raw (entry u) (expand t) (expand (roll t)) i o = entry u (code t i o) := by
  refine (raw_mk (entry u) (expand t) (expand (roll t)) i.val i.isLt o).trans ?_
  unfold code
  rw [expand_apply, expand_apply, roll_apply]
  have h : i.val / 8 / 2 = i.val / 16 := by omega
  simp only [h]

theorem W7_apply (c : Dev nD) (ht : ∀ y, (m ((c : Thread nD τ).loc main_arg1) y : BitVec 32).toNat < 65536) (b : Fin 4) (s : Fin 2048) (o : Fin 4096) :
    (W7 m ρ c (Proc.devRef .tc main_v22) : Vec Ideal S4x2048x4096 .f32) (ix3 b s o)
      = result (m ((c : Thread nD τ).loc main_arg0)) (m ((c : Thread nD τ).loc main_arg1)) (m ((c : Thread nD τ).loc main_arg2))
          (m ((c : Thread nD τ).loc main_arg3)) b s o := by
  have h0 := array0 (V3 m ρ) c (entry (m ((c : Thread nD τ).loc main_arg2)))
    (fun q r x => by
      rw [V3_v12]
      refine (half_apply 0 (by decide) _ _ q r x).trans ?_
      unfold entry
      exact congrArg (m ((c : Thread nD τ).loc main_arg2)) (congrArg (fun a => ix2 (n0 := 65536) (n1 := 1) a 0) (Fin.ext (by simp only; omega))))
    (fun q r x => by
      rw [V3_v15]
      refine (half_apply 1 (by decide) _ _ q r x).trans ?_
      unfold entry
      exact congrArg (m ((c : Thread nD τ).loc main_arg2)) (congrArg (fun a => ix2 (n0 := 65536) (n1 := 1) a 0) (Fin.ext (by simp only; omega))))
    (fun r o => by rw [V3_v2, expand_apply]; exact ht _)
    (fun r o => by rw [V3_v6, expand_apply, roll_apply]; exact ht _)
  rw [W7_v22, array1]
  refine (output_apply _ b s o).trans ?_
  refine (prod_ix2 _ _ _ o).trans ?_
  unfold result
  refine Finset.sum_congr rfl fun i _ => ?_
  rw [V5_v20, V5_v18, h0]
  refine congrArg₂ (· * ·) (input_apply _ b s i) ?_
  have e : ∀ (T : ℕ → EReal) (A B : Vec Ideal S512x4096 .i32) (H : Vec Ideal S128x128 .f32) (sc : Vec Ideal S32x4096 .f32),
      turned T A B H sc (ix2 i o) = turn T A B H sc ⟨i.val / 128, Nat.div_lt_of_lt_mul i.isLt⟩ ⟨i.val % 128, Nat.mod_lt _ (by decide)⟩ o := fun _ _ _ _ _ => rfl
  refine (e _ _ _ _ _).trans ?_
  unfold turn
  rw [V3_v17, V3_v2, V3_v6, V3_cst]
  refine congrArg₂ (· * ·) (Finset.sum_congr rfl fun k _ => ?_) (scales_apply _ _ o)
  exact congrArg₂ (· * ·) rfl (raw_code _ _ _ o)

/-- THE RUN: the result array at its value, the arguments unchanged. -/
theorem kernel_run : θ_run defs (onTc (τ := τ) (main (F := Ideal))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Held)
            ⊢ BI.own (emb₁ (initOf (Pipeline.cells cfgs cellOf_inj) (Pipeline.launchToks cfgs cellOf_inj))) from .rfl)
        iexact Hu
      iapply (show (BI.emp : sProp Held) ⊢ bigSep Finset.univ (fun _ : Dev nD => (BI.emp : sProp Held)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c => ⟨h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Value

end Cert.Dec

end
-- ==== Proof.Dec.Lit.lean ====
module

public import proofs.«01_k».proof.KernelIdeal
public import proofs.«01_k».proof.ReferenceIdeal
public import Idealize.ShloMosaic.PureOps.Ideal

@[expose] public section

noncomputable section

namespace Cert.Dec

open Idealize.ShloMosaic

/-- Every word of the transform's table is one of two: the float32 nearest 1/√128, or its negative. -/
theorem lit_words : ∀ i : Fin 16384, Cert.KernelIdeal.lit0 i = 0x3DB504F3#32 ∨ Cert.KernelIdeal.lit0 i = 0xBDB504F3#32 := by
  decide +kernel

/-- The two programs' tables are the same words. -/
theorem lit_eq : ∀ i : Fin 16384, Cert.ReferenceIdeal.lit0 i = Cert.KernelIdeal.lit0 i := by
  decide +kernel

end Cert.Dec

end
-- ==== Proof.Dec.Finite.lean ====
module

public import proofs.«01_k».proof.Defs
public import proofs.«01_k».proof.Proof.Gen.Pre_drawn
public import proofs.«01_k».proof.Proof.Dec.Kernel
public import proofs.«01_k».proof.Proof.Dec.Lit
public import Idealize.ShloMosaic.Lib.ReduceAll
public import Idealize.ShloMosaic.Lib.Pointwise

@[expose] public section

noncomputable section

namespace Cert.Dec

open Idealize.ShloMosaic Idealize.ShloMosaic.TcCoe

/-! ## What the precondition says -/

/-- An extended real whose absolute value is below infinity is a real. -/
theorem real_of_lt (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  refine EReal.coe_toReal ?_ ?_
  · rintro rfl
    simp [Ideal.cmp] at h
  · rintro rfl
    simp [Ideal.cmp] at h

instance : Subsingleton Cert.Pre_drawn.S_.Idx := ⟨fun a b => funext fun d => d.elim0⟩

/-- The drawn arguments: the three float arrays are real everywhere, and the words are below 65536. -/
theorem drawn_reads (x : FVec Ideal Cert.Pre_drawn.S4x2048x4096 .f32) (t : IVec Cert.Pre_drawn.S65536x32 32)
    (u : FVec Ideal Cert.Pre_drawn.S65536x1 .f32) (v : FVec Ideal Cert.Pre_drawn.S131072x1 .f32)
    (h : Cert.Pre_drawn.fn (F := Ideal) x t u v = fun _ => 1#1) :
    (∀ y, (((x y : EReal).toReal : ℝ) : EReal) = x y) ∧ (∀ y, (((u y : EReal).toReal : ℝ) : EReal) = u y)
      ∧ (∀ y, (((v y : EReal).toReal : ℝ) : EReal) = v y) ∧ ∀ y, (t y).toNat < 65536 := by
  have h0 := congrFun h ix0
  obtain ⟨h1, hlt⟩ := IntOp.andi_eq_one.1 h0
  obtain ⟨h2, hge⟩ := IntOp.andi_eq_one.1 h1
  obtain ⟨h3, hv⟩ := IntOp.andi_eq_one.1 h2
  obtain ⟨hx, hu⟩ := IntOp.andi_eq_one.1 h3
  refine ⟨fun y => real_of_lt _ (Host.reduce_andi_all _ _ _ _ _ hx y), fun y => real_of_lt _ (Host.reduce_andi_all _ _ _ _ _ hu y),
    fun y => real_of_lt _ (Host.reduce_andi_all _ _ _ _ _ hv y), fun y => ?_⟩
  have a : (0#32 : BitVec 32).toInt ≤ (t y).toInt := IntOp.cmpi_sge.1 (Host.reduce_andi_all _ _ _ _ _ hge y)
  have b : (t y).toInt < (65536#32 : BitVec 32).toInt := IntOp.cmpi_slt.1 (Host.reduce_andi_all _ _ _ _ _ hlt y)
  rw [show (0#32 : BitVec 32).toInt = 0 from rfl] at a
  rw [show (65536#32 : BitVec 32).toInt = 65536 from rfl] at b
  rw [BitVec.toInt_eq_toNat_cond] at a b
  have := (t y).isLt
  split at a <;> omega

/-! ## The rotation's entries are real -/

theorem table_real (y : Cert.KernelIdeal.S128x128.Idx) : (((table y : EReal).toReal : ℝ) : EReal) = table y := by
  unfold table
  have h : ∀ w : BitVec 32, w = 0x3DB504F3#32 ∨ w = 0xBDB504F3#32 → (((Ideal.ofBits .f32 w : EReal).toReal : ℝ) : EReal) = Ideal.ofBits .f32 w := by
    rintro w (rfl | rfl)
    · simp [Ideal.ofBits, Ideal.ieee, -EReal.coe_mul]
    · simp [Ideal.ofBits, Ideal.ieee, -EReal.coe_mul]
  exact h _ (lit_words _)

/-! ## The equation over the extended reals -/

theorem coe_sum {ι : Type} [Fintype ι] (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

/-- For real factors the rotation may be done on either side. -/
theorem swap_real (x : Fin 4096 → EReal) (h : Fin 128 → Fin 128 → EReal) (v : Fin 4096 → EReal) (s : Fin 32 → EReal)
    (hx : ∀ i, (((x i).toReal : ℝ) : EReal) = x i) (hh : ∀ a b, (((h a b).toReal : ℝ) : EReal) = h a b)
    (hv : ∀ i, (((v i).toReal : ℝ) : EReal) = v i) (hs : ∀ g, (((s g).toReal : ℝ) : EReal) = s g) :
    ∑ i : Fin 4096, x i * ((∑ k : Fin 128, h ⟨i.val % 128, Nat.mod_lt _ (by decide)⟩ k * v ⟨128 * (i.val / 128) + k.val, by omega⟩)
        * s ⟨i.val / 128, by omega⟩)
      = ∑ i : Fin 4096, (∑ j : Fin 128, x ⟨128 * (i.val / 128) + j.val, by omega⟩ * h j ⟨i.val % 128, Nat.mod_lt _ (by decide)⟩)
        * (v i * s ⟨i.val / 128, by omega⟩) := by
  have e := sum_swap (fun i => (x i).toReal) (fun a b => (h a b).toReal) (fun i => (v i).toReal) (fun g => (s g).toReal)
    (fun g j => ⟨128 * g.val + j.val, by omega⟩) (fun g j => rfl)
    ⟨fun p => ⟨128 * p.1.val + p.2.val, by omega⟩, fun i => (⟨i.val / 128, by omega⟩, ⟨i.val % 128, Nat.mod_lt _ (by decide)⟩),
      fun p => Prod.ext (Fin.ext (by simp only; omega)) (Fin.ext (by simp only; omega)), fun i => Fin.ext (by simp only; omega)⟩
    (fun p => rfl) (fun i => ⟨i.val / 128, by omega⟩) (fun i => ⟨i.val % 128, Nat.mod_lt _ (by decide)⟩)
    (fun g j => Fin.ext (by simp only; omega)) (fun g j => Fin.ext (by simp only; omega))
  have e2 := congrArg (fun r : ℝ => (r : EReal)) e
  simp only [← coe_sum, EReal.coe_mul, hx, hh, hv, hs] at e2
  exact e2

end Cert.Dec
-- ==== Proof.Dec.RefState.lean ====
module

public import proofs.«01_k».proof.Proof.Gen.ReferenceIdeal.Run
public import proofs.«01_k».proof.Proof.Dec.Math
public import proofs.«01_k».proof.Proof.Dec.Words
public import Idealize.ShloMosaic.Lib.Affine
public import Idealize.ShloMosaic.Lib.Pointwise

@[expose] public section

noncomputable section

namespace Cert.Dec.Ref

open Idealize.ShloMosaic Idealize.ShloMosaic.TcCoe Idealize.ShloMosaic.StableHlo Cert.ReferenceIdeal Cert.ReferenceIdeal.Gen
open Cert.ReferenceIdeal.Value

variable {F : FTy → Type} [FloatOps F]

/-! ## The reference's windows

The reference spells the 512 bits of each row out and puts the sixteen bits of every window together one by one. -/

/-- The 512 bits of every row. -/
def bits (t : IVec S65536x32 32) : IVec S65536x512 32 :=
  shapeCast S65536x512 (andi (Host.shrsi (broadcastInDim S65536x32x16 ![0, 1, 2] bcast_S65536x32x1_S65536x32x16_0_1_2
      (broadcastInDim S65536x32x1 ![0, 1] bcast_S65536x32_S65536x32x1_0_1 t))
    (broadcastInDim S65536x32x16 ![0, 1, 2] bcast_S1x1x16_S65536x32x16_0_1_2 (broadcastInDim S1x1x16 ![2] bcast_S16_S1x1x16_2
      (subi (broadcastInDim S16 ![] bcast_S_S16 (constantI S_ 32 15#32)) (iotaInDim S16 32 0)))))
    (broadcastInDim S65536x32x16 ![] bcast_S_S65536x32x16 (constantI S_ 32 1#32))) shapeCasts_S65536x32x16_S65536x512

/-- The number of columns, as a remainder's divisor. -/
def ring : IVec S_ 32 :=
  select (cmpi .eq (id (constantI S_ 32 512#32)) (constantI S_ 32 0#32)) (constantI S_ 32 1#32) (id (constantI S_ 32 512#32))

/-- The column of bit `j` before the remainder's sign is looked at. -/
def rest (j : ℕ) : IVec S256 32 :=
  Host.remsi (addi (muli (iotaInDim S256 32 0) (broadcastInDim S256 ![] bcast_S_S256 (constantI S_ 32 2#32)))
    (broadcastInDim S256 ![] bcast_S_S256 (constantI S_ 32 (BitVec.ofNat 32 j)))) (broadcastInDim S256 ![] bcast_S_S256 ring)

/-- The column of bit `j` of every window. -/
def column (j : ℕ) : IVec S256 32 :=
  select (andi (cmpi .ne (cmpi .slt (rest j) (broadcastInDim S256 ![] bcast_S_S256 (constantI S_ 32 0#32)))
      (broadcastInDim S256 ![] bcast_S_S256 (cmpi .slt ring (constantI S_ 32 0#32))))
      (cmpi .ne (rest j) (broadcastInDim S256 ![] bcast_S_S256 (constantI S_ 32 0#32))))
    (addi (rest j) (broadcastInDim S256 ![] bcast_S_S256 ring)) (rest j)

/-- Bit `j` of every window. -/
def digit (B : IVec S65536x512 32) (j : ℕ) : IVec S65536x256 32 :=
  Host.gather gather_S65536x512_S256x1_S65536x256_0_1_n_n_1_1_655361 B (broadcastInDim S256x1 ![0] bcast_S256_S256x1_0
    (select (cmpi .slt (column j) (broadcastInDim S256 ![] bcast_S_S256 (constantI S_ 32 0#32)))
      (addi (column j) (broadcastInDim S256 ![] bcast_S_S256 (constantI S_ 32 512#32))) (column j)))

/-- The first `n` bits of every window. -/
def state (B : IVec S65536x512 32) : ℕ → IVec S65536x256 32
  | 0 => broadcastInDim S65536x256 ![] bcast_S_S65536x256 (constantI S_ 32 0#32)
  | n + 1 => addi (muli (state B n) (broadcastInDim S65536x256 ![] bcast_S_S65536x256 (constantI S_ 32 2#32))) (digit B n)

theorem state_eq (V0 : Valuation τ sig (Elt F)) :
    res_main_v225 V0 = state (bits (V0 (Proc.devRef .tc main_arg1))) 16 := rfl

/-! ## Read at an index -/

theorem ring_apply (y : S_.Idx) : ring y = 512#32 := by
  unfold ring
  pointwise
  rfl

theorem rest_toNat (j : ℕ) (hj : j < 16) (u : Fin 256) : (rest j (ix1 u)).toNat = (2 * u.val + j) % 512 := by
  have h : rest j (ix1 u) = IntOp.remsi .host (IntOp.addi (IntOp.muli (BitVec.ofNat 32 u.val) 2#32) (BitVec.ofNat 32 j)) 512#32 := by
    unfold rest
    pointwise
    rw [ring_apply]
  have hu := u.isLt
  have e : (IntOp.addi (IntOp.muli (BitVec.ofNat 32 u.val) 2#32) (BitVec.ofNat 32 j)).toNat = 2 * u.val + j := by
    simp only [IntOp.addi, IntOp.muli, BitVec.toNat_add, BitVec.toNat_mul, BitVec.toNat_ofNat]
    omega
  rw [h, show (512#32 : BitVec 32) = BitVec.ofNat 32 512 from rfl, IntOp.toNat_remsi .host (by omega) 512 (by decide) (by decide), e]

theorem column_apply (j : ℕ) (hj : j < 16) (u : Fin 256) : column j (ix1 u) = rest j (ix1 u) := by
  have h : column j (ix1 u) = Scalar.select (IntOp.andi (IntOp.cmpi .ne (IntOp.cmpi .slt (rest j (ix1 u)) 0#32) (IntOp.cmpi .slt 512#32 0#32))
      (IntOp.cmpi .ne (rest j (ix1 u)) 0#32)) (IntOp.addi (rest j (ix1 u)) 512#32) (rest j (ix1 u)) := by
    unfold column
    pointwise
    rw [ring_apply]
  have hr := rest_toNat j hj u
  have hlt : (rest j (ix1 u)).toNat < 512 := by rw [hr]; exact Nat.mod_lt _ (by decide)
  have hs : (rest j (ix1 u)).slt 0#32 = false := by
    rw [BitVec.slt_zero_eq_msb, BitVec.msb_eq_decide]
    simp only [decide_eq_false_iff_not, not_le]
    omega
  have hs2 : (512#32 : BitVec 32).slt 0#32 = false := by decide
  rw [h]
  simp [IntOp.cmpi, IntOp.andi, hs, hs2, Scalar.select]

/-- The columns gathered: every result column is the operand's column of that number. -/
theorem columns_apply {α : Type} (B : S65536x512.Idx → α) (l : IVec S256x1 32) (T : Fin 65536) (u : Fin 256) (n : Fin 512)
    (h : (l (ix2 (n0 := 256) (n1 := 1) u 0)).toInt = n.val) :
    Host.gather gather_S65536x512_S256x1_S65536x256_0_1_n_n_1_1_655361 B l (ix2 T u) = B (ix2 T n) := by
  unfold Host.gather
  refine congrArg B (funext fun a => Fin.ext ?_)
  have hsi : ∀ hk, GatherDims.siIdx gather_S65536x512_S256x1_S65536x256_0_1_n_n_1_1_655361 (ix2 T u)
      ⟨List.idxOf (1 : Fin 2) gather_S65536x512_S256x1_S65536x256_0_1_n_n_1_1_655361.startIndexMap, hk⟩ = ix2 (n0 := 256) (n1 := 1) u 0 := by
    intro hk
    funext b
    refine Fin.ext ?_
    match b with
    | ⟨0, _⟩ => rfl
    | ⟨1, _⟩ => rfl
  match a with
  | ⟨0, _⟩ =>
    show GatherDims.start _ _ _ 0 + GatherDims.batchCoord _ _ 0 + GatherDims.offCoord _ _ 0 = T.val
    rw [GatherDims.batchCoord_eq_zero _ _ _ List.not_mem_nil]
    unfold GatherDims.start
    rw [dif_neg (show (0 : Fin 2) ∉ gather_S65536x512_S256x1_S65536x256_0_1_n_n_1_1_655361.startIndexMap from by decide)]
    simp only [Nat.zero_add, Nat.add_zero]
    rfl
  | ⟨1, _⟩ =>
    show GatherDims.start _ _ _ 1 + GatherDims.batchCoord _ _ 1 + GatherDims.offCoord _ _ 1 = n.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S65536x512_S256x1_S65536x256_0_1_n_n_1_1_655361.startIndexMap from List.mem_singleton.mpr rfl), hsi, h]
    have := n.isLt
    show min (n.val : ℤ).toNat (512 - 1) + 0 + 0 = n.val
    rw [Int.toNat_natCast]
    omega

/-- The entries gathered: every result element is the operand's entry of that number. -/
theorem entries_apply {α : Type} (U : S65536x1.Idx → α) (l : IVec S65536x256x1 32) (T : Fin 65536) (u : Fin 256) (n : Fin 65536)
    (h : (l (ix3 (n0 := 65536) (n1 := 256) (n2 := 1) T u 0)).toInt = n.val) :
    Host.gather gather_S65536x1_S65536x256x1_S65536x256x1_2_0_n_n_0_2_11 U l (ix3 (n0 := 65536) (n1 := 256) (n2 := 1) T u 0) = U (ix2 (n0 := 65536) (n1 := 1) n 0) := by
  unfold Host.gather
  refine congrArg U (funext fun a => Fin.ext ?_)
  have hsi : ∀ hk, GatherDims.siIdx gather_S65536x1_S65536x256x1_S65536x256x1_2_0_n_n_0_2_11 (ix3 (n0 := 65536) (n1 := 256) (n2 := 1) T u 0)
      ⟨List.idxOf (0 : Fin 2) gather_S65536x1_S65536x256x1_S65536x256x1_2_0_n_n_0_2_11.startIndexMap, hk⟩ = ix3 (n0 := 65536) (n1 := 256) (n2 := 1) T u 0 := by
    intro hk
    funext b
    refine Fin.ext ?_
    match b with
    | ⟨0, _⟩ => rfl
    | ⟨1, _⟩ => rfl
    | ⟨2, _⟩ => rfl
  match a with
  | ⟨0, _⟩ =>
    show GatherDims.start _ _ _ 0 + GatherDims.batchCoord _ _ 0 + GatherDims.offCoord _ _ 0 = n.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S65536x1_S65536x256x1_S65536x256x1_2_0_n_n_0_2_11.startIndexMap from List.mem_singleton.mpr rfl), hsi, h]
    have := n.isLt
    show min (n.val : ℤ).toNat (65536 - 1) + 0 + 0 = n.val
    rw [Int.toNat_natCast]
    omega
  | ⟨1, _⟩ => exact congrArg Fin.val (Subsingleton.elim (α := Fin 1) _ _)

theorem bits_toNat (t : IVec S65536x32 32) (T : Fin 65536) (ht : ∀ w, (t (ix2 T w)).toNat < 65536) (n : Fin 512) :
    (bits t (ix2 T n)).toNat = (t (ix2 (n0 := 65536) (n1 := 32) T ⟨n.val / 16, by omega⟩)).toNat / 2 ^ (15 - n.val % 16) % 2 := by
  have h : bits t (ix2 T n) = IntOp.andi (IntOp.shrsi .host (t (ix2 (n0 := 65536) (n1 := 32) T ⟨n.val / 16, by omega⟩))
      (IntOp.subi 15#32 (BitVec.ofNat 32 (n.val % 16)))) 1#32 := by
    unfold bits
    rw [shapeCast_apply _ _ _ (ix3 (n0 := 65536) (n1 := 32) (n2 := 16) T ⟨n.val / 16, by omega⟩ ⟨n.val % 16, by omega⟩) (by
      rw [Shape.rowMajor_val_two, Shape.rowMajor_val_three]
      show (T.val * 32 + n.val / 16) * 16 + n.val % 16 = T.val * 512 + n.val
      omega)]
    pointwise
  have e : (IntOp.subi 15#32 (BitVec.ofNat 32 (n.val % 16))).toNat = 15 - n.val % 16 := by
    simp only [IntOp.subi, BitVec.toNat_sub, BitVec.toNat_ofNat]
    omega
  have h1 := ht ⟨n.val / 16, by omega⟩
  rw [h, IntOp.andi, BitVec.toNat_and, shrsi_toNat _ _ _ (by omega) (by rw [e]; omega), e,
    show (1#32 : BitVec 32).toNat = 2 ^ 1 - 1 from rfl, Nat.and_two_pow_sub_one_eq_mod]

/-- Bit `j` of window `u`, as a number. -/
def place (t : IVec S65536x32 32) (T : Fin 65536) (u j : ℕ) : ℕ :=
  (t (ix2 (n0 := 65536) (n1 := 32) T ⟨(2 * u + j) % 512 / 16, by omega⟩)).toNat / 2 ^ (15 - (2 * u + j) % 512 % 16) % 2

theorem digit_toNat (t : IVec S65536x32 32) (T : Fin 65536) (ht : ∀ w, (t (ix2 T w)).toNat < 65536) (j : ℕ) (hj : j < 16) (u : Fin 256) :
    (digit (bits t) j (ix2 T u)).toNat = place t T u.val j := by
  have hr := rest_toNat j hj u
  have hlt : (rest j (ix1 u)).toNat < 512 := by rw [hr]; exact Nat.mod_lt _ (by decide)
  unfold digit
  rw [columns_apply (bits t) _ T u ⟨(2 * u.val + j) % 512, Nat.mod_lt _ (by decide)⟩ (by
    refine (congrArg BitVec.toInt (?_ : _ = rest j (ix1 u))).trans ?_
    · refine Eq.trans (b := Scalar.select (IntOp.cmpi .slt (column j (ix1 u)) 0#32) (IntOp.addi (column j (ix1 u)) 512#32) (column j (ix1 u))) ?_ ?_
      · pointwise
      · rw [column_apply j hj, select_wrap _ _ (by omega)]
    · rw [BitVec.toInt_eq_toNat_of_lt (by omega), hr])]
  exact bits_toNat t T ht _

theorem hor_lt (d : ℕ → ℕ) (hd : ∀ j, d j < 2) : ∀ n, hor d n < 2 ^ n
  | 0 => by simp [hor]
  | n + 1 => by
    have := hor_lt d hd n
    have := hd n
    rw [hor, pow_succ]
    omega

theorem state_toNat (t : IVec S65536x32 32) (T : Fin 65536) (ht : ∀ w, (t (ix2 T w)).toNat < 65536) (u : Fin 256) :
    ∀ n, n ≤ 16 → (state (bits t) n (ix2 T u)).toNat = hor (place t T u.val) n
  | 0, _ => by
    unfold state
    pointwise
    rfl
  | n + 1, hn => by
    have ih := state_toNat t T ht u n (by omega)
    have h : state (bits t) (n + 1) (ix2 T u) = IntOp.addi (IntOp.muli (state (bits t) n (ix2 T u)) 2#32) (digit (bits t) n (ix2 T u)) := by
      rw [state]
      pointwise
    have hd : ∀ j, place t T u.val j < 2 := fun j => Nat.mod_lt _ (by decide)
    have h1 := hor_lt _ hd n
    have h2 : (2 : ℕ) ^ n ≤ 2 ^ 15 := Nat.pow_le_pow_right (by decide) (by omega)
    have h3 := hd n
    rw [h, hor]
    simp only [IntOp.addi, IntOp.muli, BitVec.toNat_add, BitVec.toNat_mul, ih, digit_toNat t T ht n (by omega) u, BitVec.toNat_ofNat]
    omega

/-- The sixteen bits together are the window. -/
theorem state_win (t : IVec S65536x32 32) (T : Fin 65536) (ht : ∀ w, (t (ix2 T w)).toNat < 65536) (u : Fin 256) :
    (state (bits t) 16 (ix2 T u)).toNat
      = win (t (ix2 (n0 := 65536) (n1 := 32) T ⟨u.val / 8, by omega⟩)).toNat
          (t (ix2 (n0 := 65536) (n1 := 32) T ⟨(u.val / 8 + 1) % 32, by omega⟩)).toNat (u.val % 8) := by
  rw [state_toNat t T ht u 16 le_rfl]
  have h := hor_ring (fun w => (t (ix2 (n0 := 65536) (n1 := 32) T ⟨w % 32, Nat.mod_lt _ (by decide)⟩)).toNat) (fun w => ht _)
    (w := u.val / 8) (r := u.val % 8) (by omega) (by omega)
  refine Eq.trans (congrArg (fun d => hor d 16) (funext fun j => ?_)) (h.trans ?_)
  · unfold place
    have e : 16 * (u.val / 8) + 2 * (u.val % 8) + j = 2 * u.val + j := by omega
    have e2 : (2 * u.val + j) % 512 / 16 % 32 = (2 * u.val + j) % 512 / 16 := by omega
    simp only [e, e2]
  · have e : u.val / 8 % 32 = u.val / 8 := by omega
    simp only [e, Nat.mod_mod]

end Cert.Dec.Ref
-- ==== Proof.Dec.RefValue.lean ====
module

public import proofs.«01_k».proof.Proof.Dec.RefState

@[expose] public section

noncomputable section

namespace Cert.Dec.Ref

open Idealize.ShloMosaic Idealize.ShloMosaic.TcCoe Idealize.ShloMosaic.StableHlo Idealize.SL Idealize.SL.Sem Cert.ReferenceIdeal Cert.ReferenceIdeal.Gen
open Cert.ReferenceIdeal.Value

/-! ## The reference's result, element by element -/

/-- The table's entry of every window. -/
def looked (t : IVec S65536x32 32) (U : FVec Ideal S65536x1 .f32) : FVec Ideal S65536x256x1 .f32 :=
  Host.gather gather_S65536x1_S65536x256x1_S65536x256x1_2_0_n_n_0_2_11 U (broadcastInDim S65536x256x1 ![0, 1] bcast_S65536x256_S65536x256x1_0_1
    (select (cmpi .slt (state (bits t) 16) (broadcastInDim S65536x256 ![] bcast_S_S65536x256 (constantI S_ 32 0#32)))
      (addi (state (bits t) 16) (broadcastInDim S65536x256 ![] bcast_S_S65536x256 (constantI S_ 32 65536#32))) (state (bits t) 16)))

theorem looked_apply (t : IVec S65536x32 32) (U : FVec Ideal S65536x1 .f32) (T : Fin 65536) (ht : ∀ w, (t (ix2 T w)).toNat < 65536) (u : Fin 256) :
    looked t U (ix3 (n0 := 65536) (n1 := 256) (n2 := 1) T u 0)
      = U (ix2 (n0 := 65536) (n1 := 1) ⟨win (t (ix2 (n0 := 65536) (n1 := 32) T ⟨u.val / 8, by omega⟩)).toNat
          (t (ix2 (n0 := 65536) (n1 := 32) T ⟨(u.val / 8 + 1) % 32, by omega⟩)).toNat (u.val % 8), win_lt _ _ _⟩ 0) := by
  have hs := state_win t T ht u
  have hl := win_lt (t (ix2 (n0 := 65536) (n1 := 32) T ⟨u.val / 8, by omega⟩)).toNat
    (t (ix2 (n0 := 65536) (n1 := 32) T ⟨(u.val / 8 + 1) % 32, by omega⟩)).toNat (u.val % 8)
  unfold looked
  refine entries_apply U _ T u _ ?_
  refine (congrArg BitVec.toInt (?_ : _ = state (bits t) 16 (ix2 T u))).trans ?_
  · refine Eq.trans (b := Scalar.select (IntOp.cmpi .slt (state (bits t) 16 (ix2 T u)) 0#32) (IntOp.addi (state (bits t) 16 (ix2 T u)) 65536#32)
      (state (bits t) 16 (ix2 T u))) ?_ ?_
    · pointwise
    · rw [select_wrap _ _ (by omega)]
  · rw [BitVec.toInt_eq_toNat_of_lt (by omega), hs]

/-- The decoded matrix, before the scales. -/
def decoded (L : FVec Ideal S65536x256x1 .f32) : FVec Ideal S4096x4096 .f32 :=
  shapeCast S4096x4096 (transpose S256x16x256x16 [0, 2, 1, 3] (shapeCast S256x256x16x16 (shapeCast S65536x16x16 L shapeCasts_S65536x256x1_S65536x16x16)
    shapeCasts_S65536x16x16_S256x256x16x16) transposes_S256x256x16x16_S256x16x256x16_0_2_1_3) shapeCasts_S256x16x256x16_S4096x4096

theorem decoded_apply (L : FVec Ideal S65536x256x1 .f32) (o i : Fin 4096) :
    decoded L (ix2 o i) = L (ix3 (n0 := 65536) (n1 := 256) (n2 := 1) ⟨256 * (o.val / 16) + i.val / 16, by omega⟩
      ⟨16 * (o.val % 16) + i.val % 16, by omega⟩ 0) := by
  unfold decoded
  rw [shapeCast_apply _ _ (ix2 o i) (ix4 (n0 := 256) (n1 := 16) (n2 := 256) (n3 := 16) ⟨o.val / 16, by omega⟩ ⟨o.val % 16, by omega⟩ ⟨i.val / 16, by omega⟩ ⟨i.val % 16, by omega⟩) (by
    rw [Shape.rowMajor_val_two, Shape.rowMajor_val_four]
    show ((o.val / 16 * 16 + o.val % 16) * 256 + i.val / 16) * 16 + i.val % 16 = o.val * 4096 + i.val
    omega)]
  have h : ∀ Y : FVec Ideal S256x256x16x16 .f32, transpose S256x16x256x16 [0, 2, 1, 3] Y transposes_S256x256x16x16_S256x16x256x16_0_2_1_3
      (ix4 (n0 := 256) (n1 := 16) (n2 := 256) (n3 := 16) ⟨o.val / 16, by omega⟩ ⟨o.val % 16, by omega⟩ ⟨i.val / 16, by omega⟩ ⟨i.val % 16, by omega⟩)
    = Y (ix4 (n0 := 256) (n1 := 256) (n2 := 16) (n3 := 16) ⟨o.val / 16, by omega⟩ ⟨i.val / 16, by omega⟩ ⟨o.val % 16, by omega⟩ ⟨i.val % 16, by omega⟩) := by
    intro Y
    pointwise
  rw [h]
  rw [shapeCast_apply _ _ _ (ix3 (n0 := 65536) (n1 := 16) (n2 := 16) ⟨256 * (o.val / 16) + i.val / 16, by omega⟩ ⟨o.val % 16, by omega⟩ ⟨i.val % 16, by omega⟩) (by
    rw [Shape.rowMajor_val_three, Shape.rowMajor_val_four]
    show ((256 * (o.val / 16) + i.val / 16) * 16 + o.val % 16) * 16 + i.val % 16 = ((o.val / 16 * 256 + i.val / 16) * 16 + o.val % 16) * 16 + i.val % 16
    omega)]
  rw [shapeCast_apply _ _ _ (ix3 (n0 := 65536) (n1 := 256) (n2 := 1) ⟨256 * (o.val / 16) + i.val / 16, by omega⟩ ⟨16 * (o.val % 16) + i.val % 16, by omega⟩ 0) (by
    rw [Shape.rowMajor_val_three, Shape.rowMajor_val_three]
    show ((256 * (o.val / 16) + i.val / 16) * 256 + (16 * (o.val % 16) + i.val % 16)) * 1 + 0 = ((256 * (o.val / 16) + i.val / 16) * 16 + o.val % 16) * 16 + i.val % 16
    omega)]

/-- The scaled matrix, inputs first. -/
def scaled (D : FVec Ideal S4096x4096 .f32) (v : FVec Ideal S131072x1 .f32) : FVec Ideal S4096x4096 .f32 :=
  transpose S4096x4096 [1, 0] (shapeCast S4096x4096 (mulf (shapeCast S131072x128 D shapeCasts_S4096x4096_S131072x128)
    (broadcastInDim S131072x128 ![0, 1] bcast_S131072x1_S131072x128_0_1 v)) shapeCasts_S131072x128_S4096x4096) transposes_S4096x4096_S4096x4096_1_0

theorem scaled_apply (D : FVec Ideal S4096x4096 .f32) (v : FVec Ideal S131072x1 .f32) (i o : Fin 4096) :
    scaled D v (ix2 i o) = D (ix2 o i) * v (ix2 (n0 := 131072) (n1 := 1) ⟨32 * o.val + i.val / 128, by omega⟩ 0) := by
  unfold scaled
  have h : ∀ Y : FVec Ideal S4096x4096 .f32, transpose S4096x4096 [1, 0] Y transposes_S4096x4096_S4096x4096_1_0 (ix2 i o) = Y (ix2 o i) := by
    intro Y
    pointwise
  rw [h, shapeCast_apply _ _ _ (ix2 (n0 := 131072) (n1 := 128) ⟨32 * o.val + i.val / 128, by omega⟩ ⟨i.val % 128, Nat.mod_lt _ (by decide)⟩) (by
    rw [Shape.rowMajor_val_two, Shape.rowMajor_val_two]
    show (32 * o.val + i.val / 128) * 128 + i.val % 128 = o.val * 4096 + i.val
    omega)]
  have h2 : ∀ Y : FVec Ideal S131072x128 .f32, mulf Y (broadcastInDim S131072x128 ![0, 1] bcast_S131072x1_S131072x128_0_1 v)
      (ix2 (n0 := 131072) (n1 := 128) ⟨32 * o.val + i.val / 128, by omega⟩ ⟨i.val % 128, Nat.mod_lt _ (by decide)⟩)
    = (Y (ix2 (n0 := 131072) (n1 := 128) ⟨32 * o.val + i.val / 128, by omega⟩ ⟨i.val % 128, Nat.mod_lt _ (by decide)⟩) : EReal)
      * v (ix2 (n0 := 131072) (n1 := 1) ⟨32 * o.val + i.val / 128, by omega⟩ 0) := by
    intro Y
    pointwise
  rw [h2, shapeCast_apply _ _ _ (ix2 o i) (by
    rw [Shape.rowMajor_val_two, Shape.rowMajor_val_two]
    show o.val * 4096 + i.val = (32 * o.val + i.val / 128) * 128 + i.val % 128
    omega)]

/-- The rotated input. -/
def rotated (x : FVec Ideal S4x2048x4096 .f32) (H : FVec Ideal S128x128 .f32) : FVec Ideal S4x2048x4096 .f32 :=
  shapeCast S4x2048x4096 (Host.dotGeneral dot_S4x2048x32x128_S128x128_S4x2048x32x128_3_0_012_1_n_n none
    (shapeCast S4x2048x32x128 x shapeCasts_S4x2048x4096_S4x2048x32x128) H) shapeCasts_S4x2048x32x128_S4x2048x4096

theorem rotated_apply (x : FVec Ideal S4x2048x4096 .f32) (H : FVec Ideal S128x128 .f32) (b : Fin 4) (s : Fin 2048) (i : Fin 4096) :
    rotated x H (ix3 b s i) = ∑ j : Fin 128, (x (ix3 b s ⟨128 * (i.val / 128) + j.val, by omega⟩) : EReal)
      * H (ix2 (n0 := 128) (n1 := 128) j ⟨i.val % 128, Nat.mod_lt _ (by decide)⟩) := by
  unfold rotated
  rw [shapeCast_apply _ _ _ (ix4 (n0 := 4) (n1 := 2048) (n2 := 32) (n3 := 128) b s ⟨i.val / 128, by omega⟩ ⟨i.val % 128, Nat.mod_lt _ (by decide)⟩) (by
    rw [Shape.rowMajor_val_three, Shape.rowMajor_val_four]
    show ((b.val * 2048 + s.val) * 32 + i.val / 128) * 128 + i.val % 128 = (b.val * 2048 + s.val) * 4096 + i.val
    omega)]
  have h : ∀ Y : FVec Ideal S4x2048x32x128 .f32, (Host.dotGeneral dot_S4x2048x32x128_S128x128_S4x2048x32x128_3_0_012_1_n_n none Y H : FVec Ideal S4x2048x32x128 .f32)
      (ix4 (n0 := 4) (n1 := 2048) (n2 := 32) (n3 := 128) b s ⟨i.val / 128, by omega⟩ ⟨i.val % 128, Nat.mod_lt _ (by decide)⟩)
    = ∑ j : Fin 128, (Y (ix4 (n0 := 4) (n1 := 2048) (n2 := 32) (n3 := 128) b s ⟨i.val / 128, by omega⟩ j) : EReal)
      * H (ix2 (n0 := 128) (n1 := 128) j ⟨i.val % 128, Nat.mod_lt _ (by decide)⟩) := by
    intro Y
    pointwise
  rw [h]
  refine Finset.sum_congr rfl fun j _ => congrArg (· * _) ?_
  rw [shapeCast_apply _ _ _ (ix3 (n0 := 4) (n1 := 2048) (n2 := 4096) b s ⟨128 * (i.val / 128) + j.val, by omega⟩) (by
    rw [Shape.rowMajor_val_three, Shape.rowMajor_val_four]
    show (b.val * 2048 + s.val) * 4096 + (128 * (i.val / 128) + j.val) = ((b.val * 2048 + s.val) * 32 + i.val / 128) * 128 + j.val
    omega)]

/-- The last product. -/
theorem product_apply (X : FVec Ideal S4x2048x4096 .f32) (W : FVec Ideal S4096x4096 .f32) (b : Fin 4) (s : Fin 2048) (o : Fin 4096) :
    (Host.dotGeneral dot_S4x2048x4096_S4096x4096_S4x2048x4096_2_0_01_1_n_n none X W : FVec Ideal S4x2048x4096 .f32) (ix3 b s o)
      = ∑ i : Fin 4096, (X (ix3 b s i) : EReal) * W (ix2 i o) := by
  pointwise

/-- The printed rotation. -/
def table : FVec Ideal S128x128 .f32 := fun i => FloatOps.ofBits (F := Ideal) .f32 (lit0 (S128x128.rowMajor i))

/-- The reference's run, its result read back. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v242)
          = Host.dotGeneral dot_S4x2048x4096_S4096x4096_S4x2048x4096_2_0_01_1_n_n none (rotated (m ((c.tc : Thread nD τ).loc main_arg0)) table)
              (scaled (decoded (looked (m ((c.tc : Thread nD τ).loc main_arg1)) (m ((c.tc : Thread nD τ).loc main_arg2))))
                (m ((c.tc : Thread nD τ).loc main_arg3)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun r h c => ⟨(h c).1.trans rfl, (h c).2⟩) (Value.run (F := Ideal) m ρ)

end Cert.Dec.Ref
-- ==== Proof.Dec.Equal.lean ====
module

public import proofs.«01_k».proof.Proof.Dec.Finite
public import proofs.«01_k».proof.Proof.Dec.RefValue

@[expose] public section

noncomputable section

namespace Cert.Dec

open Idealize.ShloMosaic Idealize.ShloMosaic.TcCoe

/-! ## The two results are equal -/

theorem table_eq : Ref.table = (table : FVec Ideal Cert.KernelIdeal.S128x128 .f32) :=
  funext fun i => congrArg (Ideal.ofBits .f32) (lit_eq (Cert.KernelIdeal.S128x128.rowMajor i))

/-- The reference's matrix at one element: the table's entry of the window, times the scale. -/
theorem matrix_apply (t : IVec Cert.KernelIdeal.S65536x32 32) (u : FVec Ideal Cert.KernelIdeal.S65536x1 .f32) (v : FVec Ideal Cert.KernelIdeal.S131072x1 .f32)
    (ht : ∀ y, (t y).toNat < 65536) (i o : Fin 4096) :
    Ref.scaled (Ref.decoded (Ref.looked t u)) v (ix2 i o)
      = entry u (code t i o) * v (ix2 (n0 := 131072) (n1 := 1) ⟨32 * o.val + i.val / 128, by omega⟩ 0) := by
  rw [Ref.scaled_apply, Ref.decoded_apply, Ref.looked_apply t u _ (fun w => ht _)]
  refine congrArg (fun z : EReal => z * _) (congrArg u (congrArg (fun a => ix2 (n0 := 65536) (n1 := 1) a 0) (Fin.ext ?_)))
  have e1 : (16 * (o.val % 16) + i.val % 16) / 8 = 2 * (o.val % 16) + i.val / 8 % 2 := by omega
  have e2 : (16 * (o.val % 16) + i.val % 16) % 8 = i.val % 8 := by omega
  unfold code
  simp only [e1, e2]
  exact (Nat.mod_eq_of_lt (win_lt _ _ _)).symm

/-- The kernel's element is the reference's. -/
theorem result_eq (x : FVec Ideal Cert.KernelIdeal.S4x2048x4096 .f32) (t : IVec Cert.KernelIdeal.S65536x32 32)
    (u : FVec Ideal Cert.KernelIdeal.S65536x1 .f32) (v : FVec Ideal Cert.KernelIdeal.S131072x1 .f32)
    (hx : ∀ y, (((x y : EReal).toReal : ℝ) : EReal) = x y) (hu : ∀ y, (((u y : EReal).toReal : ℝ) : EReal) = u y)
    (hv : ∀ y, (((v y : EReal).toReal : ℝ) : EReal) = v y) (ht : ∀ y, (t y).toNat < 65536) (b : Fin 4) (s : Fin 2048) (o : Fin 4096) :
    result x t u v b s o
      = (Host.dotGeneral Cert.ReferenceIdeal.dot_S4x2048x4096_S4096x4096_S4x2048x4096_2_0_01_1_n_n none (Ref.rotated x Ref.table)
          (Ref.scaled (Ref.decoded (Ref.looked t u)) v) : FVec Ideal Cert.ReferenceIdeal.S4x2048x4096 .f32) (ix3 b s o) := by
  rw [Ref.product_apply, table_eq]
  refine Eq.trans ?_ (Finset.sum_congr rfl fun i _ => (congrArg₂ (fun p q : EReal => p * q) (Ref.rotated_apply x table b s i) (matrix_apply t u v ht i o)).symm)
  exact swap_real (fun i => x (ix3 b s i)) (fun a c => table (ix2 (n0 := 128) (n1 := 128) a c)) (fun i => entry u (code t i o))
    (fun g => v (ix2 (n0 := 131072) (n1 := 1) ⟨32 * o.val + g.val, by omega⟩ 0)) (fun i => hx _) (fun a c => table_real _) (fun i => hu _) (fun g => hv _)

end Cert.Dec

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.ReferenceIdeal.Run
public import proofs.«01_k».proof.Proof.Dec.Equal
public import Idealize.ShloMosaic.Adequacy
public import Idealize.ShloMosaic.Lib.Quiescent
public import Idealize.ShloMosaic.Init

@[expose] public section

noncomputable section

namespace Cert.Proof

open Idealize.ShloMosaic Idealize.SL.Sem

/-- The reference is a straight line of host operations and declares no semaphore. -/
theorem frame_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- From equal drawn arguments the kernel and the reference end with equal results. -/
theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m g m' g' hpre hargs
  refine ⟨fun c => Cert.KernelIdeal.Gen.W7 m g c (Proc.devRef .tc Cert.KernelIdeal.main_v22), Cert.Dec.kernel_run m g,
    (θ_run Cert.ReferenceIdeal.defs _ _).mono (fun r h c => ⟨(h c).1.trans ?_, (h c).2⟩) (Cert.Dec.Ref.run_value m' g')⟩
  obtain ⟨hx, hu, hv, ht⟩ := Cert.Dec.drawn_reads _ _ _ _ (hpre c)
  obtain ⟨h0, h1, h2, h3⟩ := hargs c
  rw [h0, h1, h2, h3]
  funext y
  rw [show y = ix3 (n0 := 4) (n1 := 2048) (n2 := 4096) (y 0) (y 1) (y 2) from by
    funext a
    match a with
    | ⟨0, _⟩ => rfl
    | ⟨1, _⟩ => rfl
    | ⟨2, _⟩ => rfl]
  exact ((Cert.Dec.W7_apply m g c ht _ _ _).trans (Cert.Dec.result_eq _ _ _ _ hx hu hv ht _ _ _)).symm

theorem claim : Cert.Claim :=
  ⟨Cert.Kernel.Gen.facts, Cert.KernelIdeal.Gen.facts, Cert.ReferenceIdeal.Gen.facts, Cert.Pre_drawn.Gen.facts,
    fun m g _ => Cert.Kernel.Gen.frame m g, fun m g _ => Cert.KernelIdeal.Gen.frame m g, fun m g _ => Cert.KernelIdeal.Gen.frame m g,
    frame_ri, fun m g _ => frame_ri m g True.intro, trivial, algebraic⟩

end Cert.Proof

end
